-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_above_minus_inf [hPre_bias_above_minus_inf : Cert.Pre_bias_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_bias_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_above_minus_inf [hPre_bias_above_minus_inf : Cert.Pre_bias_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_bias_above_minus_inf [hKernelIdeal : Cert.KernelIdeal.Facts] [hPre_bias_above_minus_inf : Cert.Pre_bias_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_bias_above_minus_inf [hReferenceIdeal : Cert.ReferenceIdeal.Facts] [hPre_bias_above_minus_inf : Cert.Pre_bias_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_pre_bias_above_minus_inf [hKernelIdeal : Cert.KernelIdeal.Facts] [hReferenceIdeal : Cert.ReferenceIdeal.Facts] [hPre_bias_above_minus_inf : Cert.Pre_bias_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)) (v8 : (c : Dev Cert.Kernel2Ideal.nD) → Buf (Elt Ideal) ((c.tc : Thread Cert.Kernel2Ideal.nD Cert.Kernel2Ideal.τ).loc Cert.Kernel2Ideal.main_v20_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_v20_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v68) = v4 c
          ∧ r.2.mem ((c.tc : Thread Cert.Reference2Ideal.nD Cert.Reference2Ideal.τ).loc Cert.Reference2Ideal.main_v69) = v5 c
          ∧ r.2.mem ((c.tc : Thread Cert.Reference2Ideal.nD Cert.Reference2Ideal.τ).loc Cert.Reference2Ideal.main_v61) = v6 c
          ∧ r.2.mem ((c.tc : Thread Cert.Reference2Ideal.nD Cert.Reference2Ideal.τ).loc Cert.Reference2Ideal.main_v64) = v7 c
          ∧ r.2.mem ((c.tc : Thread Cert.Reference2Ideal.nD Cert.Reference2Ideal.τ).loc Cert.Reference2Ideal.main_v32) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_bias_above_minus_inf : Cert.Pre_bias_above_minus_inf.Facts),
    quiescent_Kernel (hKernel := hKernel)
    ∧ quiescent_KernelIdeal (hKernelIdeal := hKernelIdeal)
    ∧ quiescent_KernelIdeal_pre_bias_above_minus_inf (hKernelIdeal := hKernelIdeal) (hPre_bias_above_minus_inf := hPre_bias_above_minus_inf)
    ∧ quiescent_ReferenceIdeal (hReferenceIdeal := hReferenceIdeal)
    ∧ quiescent_ReferenceIdeal_pre_bias_above_minus_inf (hReferenceIdeal := hReferenceIdeal) (hPre_bias_above_minus_inf := hPre_bias_above_minus_inf)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_bias_above_minus_inf (hKernelIdeal := hKernelIdeal) (hReferenceIdeal := hReferenceIdeal) (hPre_bias_above_minus_inf := hPre_bias_above_minus_inf)
    ∧ preserves_Kernel2_Kernel2Ideal
    ∧ algebraic_Kernel2Ideal_Reference2Ideal (hKernel2Ideal := hKernel2Ideal) (hReference2Ideal := hReference2Ideal)
-- ==== Pre_bias_above_minus_inf.lean ====
abbrev S16x4096x1024 : Shape := ⟨3, ![16, 4096, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x4096x1024 .f32) (main_arg1 : FVec F S1024x16 .f32) (main_arg2 : FVec F S16 .f32) (main_arg3 : FVec F S16x1024x256 .f32) (main_arg4 : FVec F S16x1024x256 .f32) (main_arg5 : FVec F S16x256x1024 .f32) (main_arg6 : FVec F S1024 .f32) (main_arg7 : FVec F S1024 .f32) : IVec S16 1 :=
  let main_cst : FVec F S_ .f32 := constant S_ .f32 0xFF800000#32
  let main_v0 : FVec F S16 .f32 := broadcastInDim S16 ![] bcast_S_S16 main_cst
  let main_v1 : IVec S16 1 := cmpf .ogt main_arg2 main_v0
  main_v1
-- ==== Kernel.lean ====
abbrev S16x4096x1024 : Shape := ⟨3, ![16, 4096, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S1024x128 : Shape := ⟨2, ![1024, 128]⟩
abbrev S1 : Shape := ⟨1, ![1]⟩
abbrev S128x1 : Shape := ⟨2, ![128, 1]⟩
abbrev S2 : Shape := ⟨1, ![2]⟩
abbrev S16x1024x512 : Shape := ⟨3, ![16, 1024, 512]⟩
abbrev S65536x1024 : Shape := ⟨2, ![65536, 1024]⟩
abbrev S1x1024 : Shape := ⟨2, ![1, 1024]⟩
abbrev S512x1024 : Shape := ⟨2, ![512, 1024]⟩
abbrev S512x128 : Shape := ⟨2, ![512, 128]⟩
abbrev S128x512 : Shape := ⟨2, ![128, 512]⟩
abbrev S16x512 : Shape := ⟨2, ![16, 512]⟩
abbrev S16x1 : Shape := ⟨2, ![16, 1]⟩
abbrev S1x512 : Shape := ⟨2, ![1, 512]⟩
abbrev S512 : Shape := ⟨1, ![512]⟩
abbrev S112x512 : Shape := ⟨2, ![112, 512]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S512x512 : Shape := ⟨2, ![512, 512]⟩
abbrev S512x256 : Shape := ⟨2, ![512, 256]⟩
abbrev S1x128 : Shape := ⟨2, ![1, 128]⟩
abbrev S512x1 : Shape := ⟨2, ![512, 1]⟩

abbrev nBuf : Space → Nat
  | .hbm => 29
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024x16, .f32⟩
  | .hbm, ⟨2, _⟩ => ⟨S16, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S_, .f32⟩
  | .hbm, ⟨14, _⟩ => ⟨S128x1, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S128x1, .f32⟩
  | .hbm, ⟨21, _⟩ => ⟨S16x1024x512, .f32⟩
  | .hbm, ⟨22, _⟩ => ⟨S16x1024x512, .bf16⟩
  | .hbm, ⟨23, _⟩ => ⟨S65536x1024, .f32⟩
  | .hbm, ⟨24, _⟩ => ⟨S1024x128, .bf16⟩
  | .hbm, ⟨25, _⟩ => ⟨S16x256x1024, .bf16⟩
  | .hbm, ⟨26, _⟩ => ⟨S1x1024, .f32⟩
  | .hbm, ⟨27, _⟩ => ⟨S1x1024, .f32⟩
  | .hbm, ⟨28, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S128x1, .f32⟩
  | .local _ .vmem, ⟨4, _⟩ => ⟨S16x1024x512, .bf16⟩
  | .local _ .vmem, ⟨5, _⟩ => ⟨S16x256x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x4096x1024 : Shape := ⟨3, ![16, 4096, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S65536x1024 : Shape := ⟨2, ![65536, 1024]⟩
abbrev S65536x16 : Shape := ⟨2, ![65536, 16]⟩
abbrev S_ : Shape := ⟨0, ![]⟩
abbrev S1x16 : Shape := ⟨2, ![1, 16]⟩
abbrev S65536x4x4 : Shape := ⟨3, ![65536, 4, 4]⟩
abbrev S65536x4x2 : Shape := ⟨3, ![65536, 4, 2]⟩
abbrev S65536x4 : Shape := ⟨2, ![65536, 4]⟩
abbrev S65536x1 : Shape := ⟨2, ![65536, 1]⟩
abbrev S65536 : Shape := ⟨1, ![65536]⟩
abbrev S65536x2 : Shape := ⟨2, ![65536, 2]⟩
abbrev S65536x2x1 : Shape := ⟨3, ![65536, 2, 1]⟩
abbrev S1 : Shape := ⟨1, ![1]⟩
abbrev S1x1x1 : Shape := ⟨3, ![1, 1, 1]⟩
abbrev S1x1x16 : Shape := ⟨3, ![1, 1, 16]⟩
abbrev S65536x2x16 : Shape := ⟨3, ![65536, 2, 16]⟩
abbrev S1x1024x256 : Shape := ⟨3, ![1, 1024, 256]⟩
abbrev S1024x256 : Shape := ⟨2, ![1024, 256]⟩
abbrev S65536x256 : Shape := ⟨2, ![65536, 256]⟩
abbrev S1x256x1024 : Shape := ⟨3, ![1, 256, 1024]⟩
abbrev S256x1024 : Shape := ⟨2, ![256, 1024]⟩
abbrev S1x1024 : Shape := ⟨2, ![1, 1024]⟩

abbrev nBuf : Space → Nat
  | .hbm => 497
  | .vmem => 0
  | .smem => 0
  | _ => 0

abbrev hbmTy0_0 (i : Nat) : BufTy := match i % 128 with
  | 0 => ⟨S16x4096x1024, .f32⟩
  | 1 => ⟨S1024x16, .f32⟩
  | 2 => ⟨S16, .f32⟩
  | 3 => ⟨S16x1024x256, .f32⟩
  | 4 => ⟨S16x1024x256, .f32⟩
  | 5 => ⟨S16x256x1024, .f32⟩
  | 6 => ⟨S1024, .f32⟩
  | 7 => ⟨S1024, .f32⟩
  | 8 => ⟨S65536x1024, .f32⟩
  | 9 => ⟨S65536x16, .f32⟩
  | 10 => ⟨S65536x16, .f32⟩
  | 11 => ⟨S65536x16, .f32⟩
  | 12 => ⟨S_, .f32⟩
  | 13 => ⟨S65536x16, .f32⟩
  | 14 => ⟨S65536x16, .f32⟩
  | 15 => ⟨S_, .f32⟩
  | 16 => ⟨S65536x16, .f32⟩
  | 17 => ⟨S65536x16, .f32⟩
  | 18 => ⟨S1x16, .f32⟩
  | 19 => ⟨S65536x16, .f32⟩
  | 20 => ⟨S65536x16, .f32⟩
  | 21 => ⟨S65536x4x4, .f32⟩
  | 22 => ⟨S65536x4x2, .f32⟩
  | 23 => ⟨S65536x4x2, .i32⟩
  | 24 => ⟨S_, .f32⟩
  | 25 => ⟨S65536x4, .f32⟩
  | 26 => ⟨S65536x1, .f32⟩
  | 27 => ⟨S65536x1, .i32⟩
  | 28 => ⟨S65536, .i32⟩
  | 29 => ⟨S16, .i32⟩
  | 30 => ⟨S_, .i32⟩
  | 31 => ⟨S_, .i32⟩
  | 32 => ⟨S16, .i32⟩
  | 33 => ⟨S16, .i32⟩
  | 34 => ⟨S16, .i32⟩
  | 35 => ⟨S_, .i32⟩
  | 36 => ⟨S16, .i32⟩
  | 37 => ⟨S16, .i1⟩
  | 38 => ⟨S16, .i32⟩
  | 39 => ⟨S16, .i32⟩
  | 40 => ⟨S_, .i32⟩
  | 41 => ⟨S16, .i32⟩
  | 42 => ⟨S16, .i1⟩
  | 43 => ⟨S16, .i1⟩
  | 44 => ⟨S_, .i32⟩
  | 45 => ⟨S16, .i32⟩
  | 46 => ⟨S16, .i32⟩
  | 47 => ⟨S16, .i32⟩
  | 48 => ⟨S1x16, .i32⟩
  | 49 => ⟨S65536x1, .i32⟩
  | 50 => ⟨S65536x16, .i32⟩
  | 51 => ⟨S65536x16, .i32⟩
  | 52 => ⟨S65536x16, .i1⟩
  | 53 => ⟨S_, .f32⟩
  | 54 => ⟨S_, .f32⟩
  | 55 => ⟨S65536x16, .f32⟩
  | 56 => ⟨S65536x16, .f32⟩
  | 57 => ⟨S65536x2, .f32⟩
  | 58 => ⟨S65536x2, .i32⟩
  | 59 => ⟨S_, .i32⟩
  | 60 => ⟨S65536x2, .i32⟩
  | 61 => ⟨S65536x2, .i1⟩
  | 62 => ⟨S_, .i32⟩
  | 63 => ⟨S65536x2, .i32⟩
  | 64 => ⟨S65536x2, .i32⟩
  | 65 => ⟨S65536x2, .i32⟩
  | 66 => ⟨S65536x2x1, .i32⟩
  | 67 => ⟨S1, .i32⟩
  | 68 => ⟨S_, .i32⟩
  | 69 => ⟨S65536x2x1, .i32⟩
  | 70 => ⟨S65536x2x1, .i1⟩
  | 71 => ⟨S1x1x1, .i32⟩
  | 72 => ⟨S65536x2x1, .i32⟩
  | 73 => ⟨S65536x2x1, .i1⟩
  | 74 => ⟨S65536x2x1, .i1⟩
  | 75 => ⟨S_, .i1⟩
  | 76 => ⟨S65536x2, .i1⟩
  | 77 => ⟨S65536x2, .f32⟩
  | 78 => ⟨S_, .f32⟩
  | 79 => ⟨S65536x2, .f32⟩
  | 80 => ⟨S65536x2, .f32⟩
  | 81 => ⟨S_, .f32⟩
  | 82 => ⟨S65536, .f32⟩
  | 83 => ⟨S65536x1, .f32⟩
  | 84 => ⟨S65536x2, .f32⟩
  | 85 => ⟨S65536x2, .f32⟩
  | 86 => ⟨S65536x2x1, .i32⟩
  | 87 => ⟨S1x1x16, .i32⟩
  | 88 => ⟨S65536x2x16, .i32⟩
  | 89 => ⟨S65536x2x16, .i32⟩
  | 90 => ⟨S65536x2x16, .i1⟩
  | 91 => ⟨S65536x2x16, .f32⟩
  | 92 => ⟨S65536x16, .f32⟩
  | 93 => ⟨S_, .f32⟩
  | 94 => ⟨S65536x1024, .f32⟩
  | 95 => ⟨S1x1024x256, .f32⟩
  | 96 => ⟨S1024x256, .f32⟩
  | 97 => ⟨S65536x256, .f32⟩
  | 98 => ⟨S65536x256, .f32⟩
  | 99 => ⟨S65536x256, .f32⟩
  | 100 => ⟨S_, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S65536x256, .f32⟩
  | 107 => ⟨S1x1024x256, .f32⟩
  | 108 => ⟨S1024x256, .f32⟩
  | 109 => ⟨S65536x256, .f32⟩
  | 110 => ⟨S65536x256, .f32⟩
  | 111 => ⟨S1x256x1024, .f32⟩
  | 112 => ⟨S256x1024, .f32⟩
  | 113 => ⟨S65536x1024, .f32⟩
  | 114 => ⟨S65536x1, .f32⟩
  | 115 => ⟨S65536x1024, .f32⟩
  | 116 => ⟨S65536x1024, .f32⟩
  | 117 => ⟨S65536x1024, .f32⟩
  | 118 => ⟨S1x1024x256, .f32⟩
  | 119 => ⟨S1024x256, .f32⟩
  | 120 => ⟨S65536x256, .f32⟩
  | 121 => ⟨S65536x256, .f32⟩
  | 122 => ⟨S65536x256, .f32⟩
  | 123 => ⟨S_, .f32⟩
  | 124 => ⟨S65536x256, .f32⟩
  | 125 => ⟨S65536x256, .f32⟩
  | 126 => ⟨S_, .f32⟩
  | 127 => ⟨S65536x256, .f32⟩
  | _ => ⟨S16x4096x1024, .f32⟩

abbrev hbmTy0_1 (i : Nat) : BufTy := match i % 128 with
  | 0 => ⟨S65536x256, .f32⟩
  | 1 => ⟨S65536x256, .f32⟩
  | 2 => ⟨S1x1024x256, .f32⟩
  | 3 => ⟨S1024x256, .f32⟩
  | 4 => ⟨S65536x256, .f32⟩
  | 5 => ⟨S65536x256, .f32⟩
  | 6 => ⟨S1x256x1024, .f32⟩
  | 7 => ⟨S256x1024, .f32⟩
  | 8 => ⟨S65536x1024, .f32⟩
  | 9 => ⟨S65536x1, .f32⟩
  | 10 => ⟨S65536x1024, .f32⟩
  | 11 => ⟨S65536x1024, .f32⟩
  | 12 => ⟨S65536x1024, .f32⟩
  | 13 => ⟨S1x1024x256, .f32⟩
  | 14 => ⟨S1024x256, .f32⟩
  | 15 => ⟨S65536x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S_, .f32⟩
  | 22 => ⟨S65536x256, .f32⟩
  | 23 => ⟨S65536x256, .f32⟩
  | 24 => ⟨S65536x256, .f32⟩
  | 25 => ⟨S1x1024x256, .f32⟩
  | 26 => ⟨S1024x256, .f32⟩
  | 27 => ⟨S65536x256, .f32⟩
  | 28 => ⟨S65536x256, .f32⟩
  | 29 => ⟨S1x256x1024, .f32⟩
  | 30 => ⟨S256x1024, .f32⟩
  | 31 => ⟨S65536x1024, .f32⟩
  | 32 => ⟨S65536x1, .f32⟩
  | 33 => ⟨S65536x1024, .f32⟩
  | 34 => ⟨S65536x1024, .f32⟩
  | 35 => ⟨S65536x1024, .f32⟩
  | 36 => ⟨S1x1024x256, .f32⟩
  | 37 => ⟨S1024x256, .f32⟩
  | 38 => ⟨S65536x256, .f32⟩
  | 39 => ⟨S65536x256, .f32⟩
  | 40 => ⟨S65536x256, .f32⟩
  | 41 => ⟨S_, .f32⟩
  | 42 => ⟨S65536x256, .f32⟩
  | 43 => ⟨S65536x256, .f32⟩
  | 44 => ⟨S_, .f32⟩
  | 45 => ⟨S65536x256, .f32⟩
  | 46 => ⟨S65536x256, .f32⟩
  | 47 => ⟨S65536x256, .f32⟩
  | 48 => ⟨S1x1024x256, .f32⟩
  | 49 => ⟨S1024x256, .f32⟩
  | 50 => ⟨S65536x256, .f32⟩
  | 51 => ⟨S65536x256, .f32⟩
  | 52 => ⟨S1x256x1024, .f32⟩
  | 53 => ⟨S256x1024, .f32⟩
  | 54 => ⟨S65536x1024, .f32⟩
  | 55 => ⟨S65536x1, .f32⟩
  | 56 => ⟨S65536x1024, .f32⟩
  | 57 => ⟨S65536x1024, .f32⟩
  | 58 => ⟨S65536x1024, .f32⟩
  | 59 => ⟨S1x1024x256, .f32⟩
  | 60 => ⟨S1024x256, .f32⟩
  | 61 => ⟨S65536x256, .f32⟩
  | 62 => ⟨S65536x256, .f32⟩
  | 63 => ⟨S65536x256, .f32⟩
  | 64 => ⟨S_, .f32⟩
  | 65 => ⟨S65536x256, .f32⟩
  | 66 => ⟨S65536x256, .f32⟩
  | 67 => ⟨S_, .f32⟩
  | 68 => ⟨S65536x256, .f32⟩
  | 69 => ⟨S65536x256, .f32⟩
  | 70 => ⟨S65536x256, .f32⟩
  | 71 => ⟨S1x1024x256, .f32⟩
  | 72 => ⟨S1024x256, .f32⟩
  | 73 => ⟨S65536x256, .f32⟩
  | 74 => ⟨S65536x256, .f32⟩
  | 75 => ⟨S1x256x1024, .f32⟩
  | 76 => ⟨S256x1024, .f32⟩
  | 77 => ⟨S65536x1024, .f32⟩
  | 78 => ⟨S65536x1, .f32⟩
  | 79 => ⟨S65536x1024, .f32⟩
  | 80 => ⟨S65536x1024, .f32⟩
  | 81 => ⟨S65536x1024, .f32⟩
  | 82 => ⟨S1x1024x256, .f32⟩
  | 83 => ⟨S1024x256, .f32⟩
  | 84 => ⟨S65536x256, .f32⟩
  | 85 => ⟨S65536x256, .f32⟩
  | 86 => ⟨S65536x256, .f32⟩
  | 87 => ⟨S_, .f32⟩
  | 88 => ⟨S65536x256, .f32⟩
  | 89 => ⟨S65536x256, .f32⟩
  | 90 => ⟨S_, .f32⟩
  | 91 => ⟨S65536x256, .f32⟩
  | 92 => ⟨S65536x256, .f32⟩
  | 93 => ⟨S65536x256, .f32⟩
  | 94 => ⟨S1x1024x256, .f32⟩
  | 95 => ⟨S1024x256, .f32⟩
  | 96 => ⟨S65536x256, .f32⟩
  | 97 => ⟨S65536x256, .f32⟩
  | 98 => ⟨S1x256x1024, .f32⟩
  | 99 => ⟨S256x1024, .f32⟩
  | 100 => ⟨S65536x1024, .f32⟩
  | 101 => ⟨S65536x1, .f32⟩
  | 102 => ⟨S65536x1024, .f32⟩
  | 103 => ⟨S65536x1024, .f32⟩
  | 104 => ⟨S65536x1024, .f32⟩
  | 105 => ⟨S1x1024x256, .f32⟩
  | 106 => ⟨S1024x256, .f32⟩
  | 107 => ⟨S65536x256, .f32⟩
  | 108 => ⟨S65536x256, .f32⟩
  | 109 => ⟨S65536x256, .f32⟩
  | 110 => ⟨S_, .f32⟩
  | 111 => ⟨S65536x256, .f32⟩
  | 112 => ⟨S65536x256, .f32⟩
  | 113 => ⟨S_, .f32⟩
  | 114 => ⟨S65536x256, .f32⟩
  | 115 => ⟨S65536x256, .f32⟩
  | 116 => ⟨S65536x256, .f32⟩
  | 117 => ⟨S1x1024x256, .f32⟩
  | 118 => ⟨S1024x256, .f32⟩
  | 119 => ⟨S65536x256, .f32⟩
  | 120 => ⟨S65536x256, .f32⟩
  | 121 => ⟨S1x256x1024, .f32⟩
  | 122 => ⟨S256x1024, .f32⟩
  | 123 => ⟨S65536x1024, .f32⟩
  | 124 => ⟨S65536x1, .f32⟩
  | 125 => ⟨S65536x1024, .f32⟩
  | 126 => ⟨S65536x1024, .f32⟩
  | 127 => ⟨S65536x1024, .f32⟩
  | _ => ⟨S16x4096x1024, .f32⟩

abbrev hbmTy0_2 (i : Nat) : BufTy := match i % 128 with
  | 0 => ⟨S1x1024x256, .f32⟩
  | 1 => ⟨S1024x256, .f32⟩
  | 2 => ⟨S65536x256, .f32⟩
  | 3 => ⟨S65536x256, .f32⟩
  | 4 => ⟨S65536x256, .f32⟩
  | 5 => ⟨S_, .f32⟩
  | 6 => ⟨S65536x256, .f32⟩
  | 7 => ⟨S65536x256, .f32⟩
  | 8 => ⟨S_, .f32⟩
  | 9 => ⟨S65536x256, .f32⟩
  | 10 => ⟨S65536x256, .f32⟩
  | 11 => ⟨S65536x256, .f32⟩
  | 12 => ⟨S1x1024x256, .f32⟩
  | 13 => ⟨S1024x256, .f32⟩
  | 14 => ⟨S65536x256, .f32⟩
  | 15 => ⟨S65536x256, .f32⟩
  | 16 => ⟨S1x256x1024, .f32⟩
  | 17 => ⟨S256x1024, .f32⟩
  | 18 => ⟨S65536x1024, .f32⟩
  | 19 => ⟨S65536x1, .f32⟩
  | 20 => ⟨S65536x1024, .f32⟩
  | 21 => ⟨S65536x1024, .f32⟩
  | 22 => ⟨S65536x1024, .f32⟩
  | 23 => ⟨S1x1024x256, .f32⟩
  | 24 => ⟨S1024x256, .f32⟩
  | 25 => ⟨S65536x256, .f32⟩
  | 26 => ⟨S65536x256, .f32⟩
  | 27 => ⟨S65536x256, .f32⟩
  | 28 => ⟨S_, .f32⟩
  | 29 => ⟨S65536x256, .f32⟩
  | 30 => ⟨S65536x256, .f32⟩
  | 31 => ⟨S_, .f32⟩
  | 32 => ⟨S65536x256, .f32⟩
  | 33 => ⟨S65536x256, .f32⟩
  | 34 => ⟨S65536x256, .f32⟩
  | 35 => ⟨S1x1024x256, .f32⟩
  | 36 => ⟨S1024x256, .f32⟩
  | 37 => ⟨S65536x256, .f32⟩
  | 38 => ⟨S65536x256, .f32⟩
  | 39 => ⟨S1x256x1024, .f32⟩
  | 40 => ⟨S256x1024, .f32⟩
  | 41 => ⟨S65536x1024, .f32⟩
  | 42 => ⟨S65536x1, .f32⟩
  | 43 => ⟨S65536x1024, .f32⟩
  | 44 => ⟨S65536x1024, .f32⟩
  | 45 => ⟨S65536x1024, .f32⟩
  | 46 => ⟨S1x1024x256, .f32⟩
  | 47 => ⟨S1024x256, .f32⟩
  | 48 => ⟨S65536x256, .f32⟩
  | 49 => ⟨S65536x256, .f32⟩
  | 50 => ⟨S65536x256, .f32⟩
  | 51 => ⟨S_, .f32⟩
  | 52 => ⟨S65536x256, .f32⟩
  | 53 => ⟨S65536x256, .f32⟩
  | 54 => ⟨S_, .f32⟩
  | 55 => ⟨S65536x256, .f32⟩
  | 56 => ⟨S65536x256, .f32⟩
  | 57 => ⟨S65536x256, .f32⟩
  | 58 => ⟨S1x1024x256, .f32⟩
  | 59 => ⟨S1024x256, .f32⟩
  | 60 => ⟨S65536x256, .f32⟩
  | 61 => ⟨S65536x256, .f32⟩
  | 62 => ⟨S1x256x1024, .f32⟩
  | 63 => ⟨S256x1024, .f32⟩
  | 64 => ⟨S65536x1024, .f32⟩
  | 65 => ⟨S65536x1, .f32⟩
  | 66 => ⟨S65536x1024, .f32⟩
  | 67 => ⟨S65536x1024, .f32⟩
  | 68 => ⟨S65536x1024, .f32⟩
  | 69 => ⟨S1x1024x256, .f32⟩
  | 70 => ⟨S1024x256, .f32⟩
  | 71 => ⟨S65536x256, .f32⟩
  | 72 => ⟨S65536x256, .f32⟩
  | 73 => ⟨S65536x256, .f32⟩
  | 74 => ⟨S_, .f32⟩
  | 75 => ⟨S65536x256, .f32⟩
  | 76 => ⟨S65536x256, .f32⟩
  | 77 => ⟨S_, .f32⟩
  | 78 => ⟨S65536x256, .f32⟩
  | 79 => ⟨S65536x256, .f32⟩
  | 80 => ⟨S65536x256, .f32⟩
  | 81 => ⟨S1x1024x256, .f32⟩
  | 82 => ⟨S1024x256, .f32⟩
  | 83 => ⟨S65536x256, .f32⟩
  | 84 => ⟨S65536x256, .f32⟩
  | 85 => ⟨S1x256x1024, .f32⟩
  | 86 => ⟨S256x1024, .f32⟩
  | 87 => ⟨S65536x1024, .f32⟩
  | 88 => ⟨S65536x1, .f32⟩
  | 89 => ⟨S65536x1024, .f32⟩
  | 90 => ⟨S65536x1024, .f32⟩
  | 91 => ⟨S65536x1024, .f32⟩
  | 92 => ⟨S1x1024x256, .f32⟩
  | 93 => ⟨S1024x256, .f32⟩
  | 94 => ⟨S65536x256, .f32⟩
  | 95 => ⟨S65536x256, .f32⟩
  | 96 => ⟨S65536x256, .f32⟩
  | 97 => ⟨S_, .f32⟩
  | 98 => ⟨S65536x256, .f32⟩
  | 99 => ⟨S65536x256, .f32⟩
  | 100 => ⟨S_, .f32⟩
  | 101 => ⟨S65536x256, .f32⟩
  | 102 => ⟨S65536x256, .f32⟩
  | 103 => ⟨S65536x256, .f32⟩
  | 104 => ⟨S1x1024x256, .f32⟩
  | 105 => ⟨S1024x256, .f32⟩
  | 106 => ⟨S65536x256, .f32⟩
  | 107 => ⟨S65536x256, .f32⟩
  | 108 => ⟨S1x256x1024, .f32⟩
  | 109 => ⟨S256x1024, .f32⟩
  | 110 => ⟨S65536x1024, .f32⟩
  | 111 => ⟨S65536x1, .f32⟩
  | 112 => ⟨S65536x1024, .f32⟩
  | 113 => ⟨S65536x1024, .f32⟩
  | 114 => ⟨S65536x1024, .f32⟩
  | 115 => ⟨S1x1024x256, .f32⟩
  | 116 => ⟨S1024x256, .f32⟩
  | 117 => ⟨S65536x256, .f32⟩
  | 118 => ⟨S65536x256, .f32⟩
  | 119 => ⟨S65536x256, .f32⟩
  | 120 => ⟨S_, .f32⟩
  | 121 => ⟨S65536x256, .f32⟩
  | 122 => ⟨S65536x256, .f32⟩
  | 123 => ⟨S_, .f32⟩
  | 124 => ⟨S65536x256, .f32⟩
  | 125 => ⟨S65536x256, .f32⟩
  | 126 => ⟨S65536x256, .f32⟩
  | 127 => ⟨S1x1024x256, .f32⟩
  | _ => ⟨S16x4096x1024, .f32⟩

abbrev hbmTy0_3 (i : Nat) : BufTy := match i % 128 with
  | 0 => ⟨S1024x256, .f32⟩
  | 1 => ⟨S65536x256, .f32⟩
  | 2 => ⟨S65536x256, .f32⟩
  | 3 => ⟨S1x256x1024, .f32⟩
  | 4 => ⟨S256x1024, .f32⟩
  | 5 => ⟨S65536x1024, .f32⟩
  | 6 => ⟨S65536x1, .f32⟩
  | 7 => ⟨S65536x1024, .f32⟩
  | 8 => ⟨S65536x1024, .f32⟩
  | 9 => ⟨S65536x1024, .f32⟩
  | 10 => ⟨S1x1024x256, .f32⟩
  | 11 => ⟨S1024x256, .f32⟩
  | 12 => ⟨S65536x256, .f32⟩
  | 13 => ⟨S65536x256, .f32⟩
  | 14 => ⟨S65536x256, .f32⟩
  | 15 => ⟨S_, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S65536x256, .f32⟩
  | 22 => ⟨S1x1024x256, .f32⟩
  | 23 => ⟨S1024x256, .f32⟩
  | 24 => ⟨S65536x256, .f32⟩
  | 25 => ⟨S65536x256, .f32⟩
  | 26 => ⟨S1x256x1024, .f32⟩
  | 27 => ⟨S256x1024, .f32⟩
  | 28 => ⟨S65536x1024, .f32⟩
  | 29 => ⟨S65536x1, .f32⟩
  | 30 => ⟨S65536x1024, .f32⟩
  | 31 => ⟨S65536x1024, .f32⟩
  | 32 => ⟨S65536x1024, .f32⟩
  | 33 => ⟨S1x1024x256, .f32⟩
  | 34 => ⟨S1024x256, .f32⟩
  | 35 => ⟨S65536x256, .f32⟩
  | 36 => ⟨S65536x256, .f32⟩
  | 37 => ⟨S65536x256, .f32⟩
  | 38 => ⟨S_, .f32⟩
  | 39 => ⟨S65536x256, .f32⟩
  | 40 => ⟨S65536x256, .f32⟩
  | 41 => ⟨S_, .f32⟩
  | 42 => ⟨S65536x256, .f32⟩
  | 43 => ⟨S65536x256, .f32⟩
  | 44 => ⟨S65536x256, .f32⟩
  | 45 => ⟨S1x1024x256, .f32⟩
  | 46 => ⟨S1024x256, .f32⟩
  | 47 => ⟨S65536x256, .f32⟩
  | 48 => ⟨S65536x256, .f32⟩
  | 49 => ⟨S1x256x1024, .f32⟩
  | 50 => ⟨S256x1024, .f32⟩
  | 51 => ⟨S65536x1024, .f32⟩
  | 52 => ⟨S65536x1, .f32⟩
  | 53 => ⟨S65536x1024, .f32⟩
  | 54 => ⟨S65536x1024, .f32⟩
  | 55 => ⟨S65536x1024, .f32⟩
  | 56 => ⟨S1x1024x256, .f32⟩
  | 57 => ⟨S1024x256, .f32⟩
  | 58 => ⟨S65536x256, .f32⟩
  | 59 => ⟨S65536x256, .f32⟩
  | 60 => ⟨S65536x256, .f32⟩
  | 61 => ⟨S_, .f32⟩
  | 62 => ⟨S65536x256, .f32⟩
  | 63 => ⟨S65536x256, .f32⟩
  | 64 => ⟨S_, .f32⟩
  | 65 => ⟨S65536x256, .f32⟩
  | 66 => ⟨S65536x256, .f32⟩
  | 67 => ⟨S65536x256, .f32⟩
  | 68 => ⟨S1x1024x256, .f32⟩
  | 69 => ⟨S1024x256, .f32⟩
  | 70 => ⟨S65536x256, .f32⟩
  | 71 => ⟨S65536x256, .f32⟩
  | 72 => ⟨S1x256x1024, .f32⟩
  | 73 => ⟨S256x1024, .f32⟩
  | 74 => ⟨S65536x1024, .f32⟩
  | 75 => ⟨S65536x1, .f32⟩
  | 76 => ⟨S65536x1024, .f32⟩
  | 77 => ⟨S65536x1024, .f32⟩
  | 78 => ⟨S65536x1024, .f32⟩
  | 79 => ⟨S65536x1024, .f32⟩
  | 80 => ⟨S_, .f32⟩
  | 81 => ⟨S65536x1024, .f32⟩
  | 82 => ⟨S65536x1024, .f32⟩
  | 83 => ⟨S65536x1024, .f32⟩
  | 84 => ⟨S_, .f32⟩
  | 85 => ⟨S65536, .f32⟩
  | 86 => ⟨S65536x1, .f32⟩
  | 87 => ⟨S_, .f32⟩
  | 88 => ⟨S65536x1, .f32⟩
  | 89 => ⟨S65536x1, .f32⟩
  | 90 => ⟨S65536x1024, .f32⟩
  | 91 => ⟨S65536x1024, .f32⟩
  | 92 => ⟨S65536x1024, .f32⟩
  | 93 => ⟨S_, .f32⟩
  | 94 => ⟨S65536, .f32⟩
  | 95 => ⟨S65536x1, .f32⟩
  | 96 => ⟨S_, .f32⟩
  | 97 => ⟨S65536x1, .f32⟩
  | 98 => ⟨S65536x1, .f32⟩
  | 99 => ⟨S65536x1024, .f32⟩
  | 100 => ⟨S65536x1024, .f32⟩
  | 101 => ⟨S_, .f32⟩
  | 102 => ⟨S65536x1, .f32⟩
  | 103 => ⟨S65536x1, .f32⟩
  | 104 => ⟨S65536x1, .f32⟩
  | 105 => ⟨S65536x1024, .f32⟩
  | 106 => ⟨S65536x1024, .f32⟩
  | 107 => ⟨S1x1024, .f32⟩
  | 108 => ⟨S65536x1024, .f32⟩
  | 109 => ⟨S65536x1024, .f32⟩
  | 110 => ⟨S1x1024, .f32⟩
  | 111 => ⟨S65536x1024, .f32⟩
  | 112 => ⟨S65536x1024, .f32⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_values : Ref sig .tc := ⟨.hbm, 22, rfl⟩
abbrev main_indices : Ref sig .tc := ⟨.hbm, 23, rfl⟩
abbrev main_cst_1 : Ref sig .tc := ⟨.hbm, 24, rfl⟩
abbrev main_v12 : Ref sig .tc := ⟨.hbm, 25, rfl⟩
abbrev main_values_2 : Ref sig .tc := ⟨.hbm, 26, rfl⟩
abbrev main_indices_3 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v21 : Ref sig .tc := ⟨.hbm, 56, rfl⟩
abbrev main_values_5 : Ref sig .tc := ⟨.hbm, 57, rfl⟩
abbrev main_indices_6 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v22 : Ref sig .tc := ⟨.hbm, 80, rfl⟩
abbrev main_cst_7 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v27 : Ref sig .tc := ⟨.hbm, 91, rfl⟩
abbrev main_v28 : Ref sig .tc := ⟨.hbm, 92, rfl⟩
abbrev main_cst_8 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_call5_v0 : Ref sig .tc := ⟨.hbm, 121, rfl⟩
abbrev main_call5_v1 : Ref sig .tc := ⟨.hbm, 122, rfl⟩
abbrev main_call5_cst : Ref sig .tc := ⟨.hbm, 123, rfl⟩
abbrev main_call5_v2 : Ref sig .tc := ⟨.hbm, 124, rfl⟩
abbrev main_call5_v3 : Ref sig .tc := ⟨.hbm, 125, rfl⟩
abbrev main_call5_cst_0 : Ref sig .tc := ⟨.hbm, 126, rfl⟩
abbrev main_call5_v4 : Ref sig .tc := ⟨.hbm, 127, rfl⟩
abbrev main_call5_v5 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_call6_v0 : Ref sig .tc := ⟨.hbm, 144, rfl⟩
abbrev main_call6_v1 : Ref sig .tc := ⟨.hbm, 145, rfl⟩
abbrev main_call6_cst : Ref sig .tc := ⟨.hbm, 146, rfl⟩
abbrev main_call6_v2 : Ref sig .tc := ⟨.hbm, 147, rfl⟩
abbrev main_call6_v3 : Ref sig .tc := ⟨.hbm, 148, rfl⟩
abbrev main_call6_cst_0 : Ref sig .tc := ⟨.hbm, 149, rfl⟩
abbrev main_call6_v4 : Ref sig .tc := ⟨.hbm, 150, rfl⟩
abbrev main_call6_v5 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_call7_v0 : Ref sig .tc := ⟨.hbm, 167, rfl⟩
abbrev main_call7_v1 : Ref sig .tc := ⟨.hbm, 168, rfl⟩
abbrev main_call7_cst : Ref sig .tc := ⟨.hbm, 169, rfl⟩
abbrev main_call7_v2 : Ref sig .tc := ⟨.hbm, 170, rfl⟩
abbrev main_call7_v3 : Ref sig .tc := ⟨.hbm, 171, rfl⟩
abbrev main_call7_cst_0 : Ref sig .tc := ⟨.hbm, 172, rfl⟩
abbrev main_call7_v4 : Ref sig .tc := ⟨.hbm, 173, rfl⟩
abbrev main_call7_v5 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_call9_v0 : Ref sig .tc := ⟨.hbm, 213, rfl⟩
abbrev main_call9_v1 : Ref sig .tc := ⟨.hbm, 214, rfl⟩
abbrev main_call9_cst : Ref sig .tc := ⟨.hbm, 215, rfl⟩
abbrev main_call9_v2 : Ref sig .tc := ⟨.hbm, 216, rfl⟩
abbrev main_call9_v3 : Ref sig .tc := ⟨.hbm, 217, rfl⟩
abbrev main_call9_cst_0 : Ref sig .tc := ⟨.hbm, 218, rfl⟩
abbrev main_call9_v4 : Ref sig .tc := ⟨.hbm, 219, rfl⟩
abbrev main_call9_v5 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_call10_v0 : Ref sig .tc := ⟨.hbm, 236, rfl⟩
abbrev main_call10_v1 : Ref sig .tc := ⟨.hbm, 237, rfl⟩
abbrev main_call10_cst : Ref sig .tc := ⟨.hbm, 238, rfl⟩
abbrev main_call10_v2 : Ref sig .tc := ⟨.hbm, 239, rfl⟩
abbrev main_call10_v3 : Ref sig .tc := ⟨.hbm, 240, rfl⟩
abbrev main_call10_cst_0 : Ref sig .tc := ⟨.hbm, 241, rfl⟩
abbrev main_call10_v4 : Ref sig .tc := ⟨.hbm, 242, rfl⟩
abbrev main_call10_v5 : Ref sig .tc := ⟨.hbm, 243, rfl⟩
abbrev main_v123 : Ref sig .tc := ⟨.hbm, 244, rfl⟩
abbrev main_v124 : Ref sig .tc := ⟨.hbm, 245, rfl⟩
abbrev main_v125 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_call11_v0 : Ref sig .tc := ⟨.hbm, 259, rfl⟩
abbrev main_call11_v1 : Ref sig .tc := ⟨.hbm, 260, rfl⟩
abbrev main_call11_cst : Ref sig .tc := ⟨.hbm, 261, rfl⟩
abbrev main_call11_v2 : Ref sig .tc := ⟨.hbm, 262, rfl⟩
abbrev main_call11_v3 : Ref sig .tc := ⟨.hbm, 263, rfl⟩
abbrev main_call11_cst_0 : Ref sig .tc := ⟨.hbm, 264, rfl⟩
abbrev main_call11_v4 : Ref sig .tc := ⟨.hbm, 265, rfl⟩
abbrev main_call11_v5 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_call12_v0 : Ref sig .tc := ⟨.hbm, 282, rfl⟩
abbrev main_call12_v1 : Ref sig .tc := ⟨.hbm, 283, rfl⟩
abbrev main_call12_cst : Ref sig .tc := ⟨.hbm, 284, rfl⟩
abbrev main_call12_v2 : Ref sig .tc := ⟨.hbm, 285, rfl⟩
abbrev main_call12_v3 : Ref sig .tc := ⟨.hbm, 286, rfl⟩
abbrev main_call12_cst_0 : Ref sig .tc := ⟨.hbm, 287, rfl⟩
abbrev main_call12_v4 : Ref sig .tc := ⟨.hbm, 288, rfl⟩
abbrev main_call12_v5 : Ref sig .tc := ⟨.hbm, 289, rfl⟩
abbrev main_v153 : Ref sig .tc := ⟨.hbm, 290, rfl⟩
abbrev main_v154 : Ref sig .tc := ⟨.hbm, 291, rfl⟩
abbrev main_v155 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_call13_v0 : Ref sig .tc := ⟨.hbm, 305, rfl⟩
abbrev main_call13_v1 : Ref sig .tc := ⟨.hbm, 306, rfl⟩
abbrev main_call13_cst : Ref sig .tc := ⟨.hbm, 307, rfl⟩
abbrev main_call13_v2 : Ref sig .tc := ⟨.hbm, 308, rfl⟩
abbrev main_call13_v3 : Ref sig .tc := ⟨.hbm, 309, rfl⟩
abbrev main_call13_cst_0 : Ref sig .tc := ⟨.hbm, 310, rfl⟩
abbrev main_call13_v4 : Ref sig .tc := ⟨.hbm, 311, rfl⟩
abbrev main_call13_v5 : Ref sig .tc := ⟨.hbm, 312, rfl⟩
abbrev main_v168 : Ref sig .tc := ⟨.hbm, 313, rfl⟩
abbrev main_v169 : Ref sig .tc := ⟨.hbm, 314, rfl⟩
abbrev main_v170 : Ref sig .tc := ⟨.hbm, 315, rfl⟩
abbrev main_v171 : Ref sig .tc := ⟨.hbm, 316, rfl⟩
abbrev main_v172 : Ref sig .tc := ⟨.hbm, 317, rfl⟩
abbrev main_v173 : Ref sig .tc := ⟨.hbm, 318, rfl⟩
abbrev main_v174 : Ref sig .tc := ⟨.hbm, 319, rfl⟩
abbrev main_v175 : Ref sig .tc := ⟨.hbm, 320, rfl⟩
abbrev main_v176 : Ref sig .tc := ⟨.hbm, 321, rfl⟩
abbrev main_v177 : Ref sig .tc := ⟨.hbm, 322, rfl⟩
abbrev main_v178 : Ref sig .tc := ⟨.hbm, 323, rfl⟩
abbrev main_v179 : Ref sig .tc := ⟨.hbm, 324, rfl⟩
abbrev main_v180 : Ref sig .tc := ⟨.hbm, 325, rfl⟩
abbrev main_v181 : Ref sig .tc := ⟨.hbm, 326, rfl⟩
abbrev main_v182 : Ref sig .tc := ⟨.hbm, 327, rfl⟩
abbrev main_call14_v0 : Ref sig .tc := ⟨.hbm, 328, rfl⟩
abbrev main_call14_v1 : Ref sig .tc := ⟨.hbm, 329, rfl⟩
abbrev main_call14_cst : Ref sig .tc := ⟨.hbm, 330, rfl⟩
abbrev main_call14_v2 : Ref sig .tc := ⟨.hbm, 331, rfl⟩
abbrev main_call14_v3 : Ref sig .tc := ⟨.hbm, 332, rfl⟩
abbrev main_call14_cst_0 : Ref sig .tc := ⟨.hbm, 333, rfl⟩
abbrev main_call14_v4 : Ref sig .tc := ⟨.hbm, 334, rfl⟩
abbrev main_call14_v5 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_v196 : Ref sig .tc := ⟨.hbm, 349, rfl⟩
abbrev main_v197 : Ref sig .tc := ⟨.hbm, 350, rfl⟩
abbrev main_call15_v0 : Ref sig .tc := ⟨.hbm, 351, rfl⟩
abbrev main_call15_v1 : Ref sig .tc := ⟨.hbm, 352, rfl⟩
abbrev main_call15_cst : Ref sig .tc := ⟨.hbm, 353, rfl⟩
abbrev main_call15_v2 : Ref sig .tc := ⟨.hbm, 354, rfl⟩
abbrev main_call15_v3 : Ref sig .tc := ⟨.hbm, 355, rfl⟩
abbrev main_call15_cst_0 : Ref sig .tc := ⟨.hbm, 356, rfl⟩
abbrev main_call15_v4 : Ref sig .tc := ⟨.hbm, 357, rfl⟩
abbrev main_call15_v5 : Ref sig .tc := ⟨.hbm, 358, rfl⟩
abbrev main_v198 : Ref sig .tc := ⟨.hbm, 359, rfl⟩
abbrev main_v199 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_call16_v0 : Ref sig .tc := ⟨.hbm, 374, rfl⟩
abbrev main_call16_v1 : Ref sig .tc := ⟨.hbm, 375, rfl⟩
abbrev main_call16_cst : Ref sig .tc := ⟨.hbm, 376, rfl⟩
abbrev main_call16_v2 : Ref sig .tc := ⟨.hbm, 377, rfl⟩
abbrev main_call16_v3 : Ref sig .tc := ⟨.hbm, 378, rfl⟩
abbrev main_call16_cst_0 : Ref sig .tc := ⟨.hbm, 379, rfl⟩
abbrev main_call16_v4 : Ref sig .tc := ⟨.hbm, 380, rfl⟩
abbrev main_call16_v5 : Ref sig .tc := ⟨.hbm, 381, rfl⟩
abbrev main_v213 : Ref sig .tc := ⟨.hbm, 382, rfl⟩
abbrev main_v214 : Ref sig .tc := ⟨.hbm, 383, rfl⟩
abbrev main_v215 : Ref sig .tc := ⟨.hbm, 384, rfl⟩
abbrev main_v216 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_v220 : Ref sig .tc := ⟨.hbm, 389, rfl⟩
abbrev main_v221 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_v227 : Ref sig .tc := ⟨.hbm, 396, rfl⟩
abbrev main_call17_v0 : Ref sig .tc := ⟨.hbm, 397, rfl⟩
abbrev main_call17_v1 : Ref sig .tc := ⟨.hbm, 398, rfl⟩
abbrev main_call17_cst : Ref sig .tc := ⟨.hbm, 399, rfl⟩
abbrev main_call17_v2 : Ref sig .tc := ⟨.hbm, 400, rfl⟩
abbrev main_call17_v3 : Ref sig .tc := ⟨.hbm, 401, rfl⟩
abbrev main_call17_cst_0 : Ref sig .tc := ⟨.hbm, 402, rfl⟩
abbrev main_call17_v4 : Ref sig .tc := ⟨.hbm, 403, rfl⟩
abbrev main_call17_v5 : Ref sig .tc := ⟨.hbm, 404, rfl⟩
abbrev main_v228 : Ref sig .tc := ⟨.hbm, 405, rfl⟩
abbrev main_v229 : Ref sig .tc := ⟨.hbm, 406, rfl⟩
abbrev main_v230 : Ref sig .tc := ⟨.hbm, 407, rfl⟩
abbrev main_v231 : Ref sig .tc := ⟨.hbm, 408, rfl⟩
abbrev main_v232 : Ref sig .tc := ⟨.hbm, 409, rfl⟩
abbrev main_v233 : Ref sig .tc := ⟨.hbm, 410, rfl⟩
abbrev main_v234 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_call18_v0 : Ref sig .tc := ⟨.hbm, 420, rfl⟩
abbrev main_call18_v1 : Ref sig .tc := ⟨.hbm, 421, rfl⟩
abbrev main_call18_cst : Ref sig .tc := ⟨.hbm, 422, rfl⟩
abbrev main_call18_v2 : Ref sig .tc := ⟨.hbm, 423, rfl⟩
abbrev main_call18_v3 : Ref sig .tc := ⟨.hbm, 424, rfl⟩
abbrev main_call18_cst_0 : Ref sig .tc := ⟨.hbm, 425, rfl⟩
abbrev main_call18_v4 : Ref sig .tc := ⟨.hbm, 426, rfl⟩
abbrev main_call18_v5 : Ref sig .tc := ⟨.hbm, 427, rfl⟩
abbrev main_v243 : Ref sig .tc := ⟨.hbm, 428, rfl⟩
abbrev main_v244 : Ref sig .tc := ⟨.hbm, 429, rfl⟩
abbrev main_v245 : Ref sig .tc := ⟨.hbm, 430, rfl⟩
abbrev main_v246 : Ref sig .tc := ⟨.hbm, 431, rfl⟩
abbrev main_v247 : Ref sig .tc := ⟨.hbm, 432, rfl⟩
abbrev main_v248 : Ref sig .tc := ⟨.hbm, 433, rfl⟩
abbrev main_v249 : Ref sig .tc := ⟨.hbm, 434, rfl⟩
abbrev main_v250 : Ref sig .tc := ⟨.hbm, 435, rfl⟩
abbrev main_v251 : Ref sig .tc := ⟨.hbm, 436, rfl⟩
abbrev main_v252 : Ref sig .tc := ⟨.hbm, 437, rfl⟩
abbrev main_v253 : Ref sig .tc := ⟨.hbm, 438, rfl⟩
abbrev main_v254 : Ref sig .tc := ⟨.hbm, 439, rfl⟩
abbrev main_v255 : Ref sig .tc := ⟨.hbm, 440, rfl⟩
abbrev main_v256 : Ref sig .tc := ⟨.hbm, 441, rfl⟩
abbrev main_v257 : Ref sig .tc := ⟨.hbm, 442, rfl⟩
abbrev main_call19_v0 : Ref sig .tc := ⟨.hbm, 443, rfl⟩
abbrev main_call19_v1 : Ref sig .tc := ⟨.hbm, 444, rfl⟩
abbrev main_call19_cst : Ref sig .tc := ⟨.hbm, 445, rfl⟩
abbrev main_call19_v2 : Ref sig .tc := ⟨.hbm, 446, rfl⟩
abbrev main_call19_v3 : Ref sig .tc := ⟨.hbm, 447, rfl⟩
abbrev main_call19_cst_0 : Ref sig .tc := ⟨.hbm, 448, rfl⟩
abbrev main_call19_v4 : Ref sig .tc := ⟨.hbm, 449, rfl⟩
abbrev main_call19_v5 : Ref sig .tc := ⟨.hbm, 450, rfl⟩
abbrev main_v258 : Ref sig .tc := ⟨.hbm, 451, rfl⟩
abbrev main_v259 : Ref sig .tc := ⟨.hbm, 452, rfl⟩
abbrev main_v260 : Ref sig .tc := ⟨.hbm, 453, rfl⟩
abbrev main_v261 : Ref sig .tc := ⟨.hbm, 454, rfl⟩
abbrev main_v262 : Ref sig .tc := ⟨.hbm, 455, rfl⟩
abbrev main_v263 : Ref sig .tc := ⟨.hbm, 456, rfl⟩
abbrev main_v264 : Ref sig .tc := ⟨.hbm, 457, rfl⟩
abbrev main_v265 : Ref sig .tc := ⟨.hbm, 458, rfl⟩
abbrev main_v266 : Ref sig .tc := ⟨.hbm, 459, rfl⟩
abbrev main_v267 : Ref sig .tc := ⟨.hbm, 460, rfl⟩
abbrev main_v268 : Ref sig .tc := ⟨.hbm, 461, rfl⟩
abbrev main_v269 : Ref sig .tc := ⟨.hbm, 462, rfl⟩
abbrev main_v270 : Ref sig .tc := ⟨.hbm, 463, rfl⟩
abbrev main_cst_9 : Ref sig .tc := ⟨.hbm, 464, rfl⟩
abbrev main_v271 : Ref sig .tc := ⟨.hbm, 465, rfl⟩
abbrev main_v272 : Ref sig .tc := ⟨.hbm, 466, rfl⟩
abbrev main_v273 : Ref sig .tc := ⟨.hbm, 467, rfl⟩
abbrev main_cst_10 : Ref sig .tc := ⟨.hbm, 468, rfl⟩
abbrev main_v274 : Ref sig .tc := ⟨.hbm, 469, rfl⟩
abbrev main_v275 : Ref sig .tc := ⟨.hbm, 470, rfl⟩
abbrev main_cst_11 : Ref sig .tc := ⟨.hbm, 471, rfl⟩
abbrev main_v276 : Ref sig .tc := ⟨.hbm, 472, rfl⟩
abbrev main_v277 : Ref sig .tc := ⟨.hbm, 473, rfl⟩
abbrev main_v278 : Ref sig .tc := ⟨.hbm, 474, rfl⟩
abbrev main_v279 : Ref sig .tc := ⟨.hbm, 475, rfl⟩
abbrev main_v280 : Ref sig .tc := ⟨.hbm, 476, rfl⟩
abbrev main_cst_12 : Ref sig .tc := ⟨.hbm, 477, rfl⟩
abbrev main_v281 : Ref sig .tc := ⟨.hbm, 478, rfl⟩
abbrev main_v282 : Ref sig .tc := ⟨.hbm, 479, rfl⟩
abbrev main_cst_13 : Ref sig .tc := ⟨.hbm, 480, rfl⟩
abbrev main_v283 : Ref sig .tc := ⟨.hbm, 481, rfl⟩
abbrev main_v284 : Ref sig .tc := ⟨.hbm, 482, rfl⟩
abbrev main_v285 : Ref sig .tc := ⟨.hbm, 483, rfl⟩
abbrev main_v286 : Ref sig .tc := ⟨.hbm, 484, rfl⟩
abbrev main_cst_14 : Ref sig .tc := ⟨.hbm, 485, rfl⟩
abbrev main_v287 : Ref sig .tc := ⟨.hbm, 486, rfl⟩
abbrev main_v288 : Ref sig .tc := ⟨.hbm, 487, rfl⟩
abbrev main_v289 : Ref sig .tc := ⟨.hbm, 488, rfl⟩
abbrev main_v290 : Ref sig .tc := ⟨.hbm, 489, rfl⟩
abbrev main_v291 : Ref sig .tc := ⟨.hbm, 490, rfl⟩
abbrev main_v292 : Ref sig .tc := ⟨.hbm, 491, rfl⟩
abbrev main_v293 : Ref sig .tc := ⟨.hbm, 492, rfl⟩
abbrev main_v294 : Ref sig .tc := ⟨.hbm, 493, rfl⟩
abbrev main_v295 : Ref sig .tc := ⟨.hbm, 494, rfl⟩
abbrev main_v296 : Ref sig .tc := ⟨.hbm, 495, rfl⟩
abbrev main_v297 : Ref sig .tc := ⟨.hbm, 496, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x3x1152 : Shape := ⟨3, ![16, 3, 1152]⟩
abbrev S1024x2956 : Shape := ⟨2, ![1024, 2956]⟩
abbrev S4x1152 : Shape := ⟨2, ![4, 1152]⟩
abbrev S_ : Shape := ⟨0, ![]⟩
abbrev S1024x128 : Shape := ⟨2, ![1024, 128]⟩
abbrev S1024x12 : Shape := ⟨2, ![1024, 12]⟩
abbrev S1 : Shape := ⟨1, ![1]⟩
abbrev S1024x1152 : Shape := ⟨2, ![1024, 1152]⟩
abbrev S1024x384 : Shape := ⟨2, ![1024, 384]⟩
abbrev S1024x256 : Shape := ⟨2, ![1024, 256]⟩
abbrev S1024x3072 : Shape := ⟨2, ![1024, 3072]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S16x4096x384 : Shape := ⟨3, ![16, 4096, 384]⟩
abbrev S16x4096x1152 : Shape := ⟨3, ![16, 4096, 1152]⟩
abbrev S16x4096x256 : Shape := ⟨3, ![16, 4096, 256]⟩
abbrev S16x4096x128 : Shape := ⟨3, ![16, 4096, 128]⟩
abbrev S16x512x768 : Shape := ⟨3, ![16, 512, 768]⟩
abbrev S1x512x1024 : Shape := ⟨3, ![1, 512, 1024]⟩
abbrev S1x3x1152 : Shape := ⟨3, ![1, 3, 1152]⟩
abbrev S1x512x384 : Shape := ⟨3, ![1, 512, 384]⟩
abbrev S1x512x1152 : Shape := ⟨3, ![1, 512, 1152]⟩
abbrev S1x512x256 : Shape := ⟨3, ![1, 512, 256]⟩
abbrev S1x512x128 : Shape := ⟨3, ![1, 512, 128]⟩
abbrev S1x512x768 : Shape := ⟨3, ![1, 512, 768]⟩
abbrev S520x1152 : Shape := ⟨2, ![520, 1152]⟩
abbrev S3x1152 : Shape := ⟨2, ![3, 1152]⟩
abbrev S512x1024 : Shape := ⟨2, ![512, 1024]⟩
abbrev S1024x512 : Shape := ⟨2, ![1024, 512]⟩
abbrev S512x512 : Shape := ⟨2, ![512, 512]⟩
abbrev S512x384 : Shape := ⟨2, ![512, 384]⟩
abbrev S512x128 : Shape := ⟨2, ![512, 128]⟩
abbrev S1x512x512 : Shape := ⟨3, ![1, 512, 512]⟩
abbrev S512x256 : Shape := ⟨2, ![512, 256]⟩
abbrev S128x384 : Shape := ⟨2, ![128, 384]⟩
abbrev S1x128x384 : Shape := ⟨3, ![1, 128, 384]⟩

abbrev nBuf : Space → Nat
  | .hbm => 69
  | .vmem => 26
  | .smem => 0
  | _ => 0

abbrev bufTy : (tb : Table) → Fin (tcTables nBuf tb) → BufTy
  | .hbm, ⟨0, _⟩ => ⟨S16x4096x1024, .f32⟩
  | .hbm, ⟨1, _⟩ => ⟨S16x3x1152, .f32⟩
  | .hbm, ⟨2, _⟩ => ⟨S1024x2956, .f32⟩
  | .hbm, ⟨3, _⟩ => ⟨S4x1152, .f32⟩
  | .hbm, ⟨4, _⟩ => ⟨S_, .f32⟩
  | .hbm, ⟨5, _⟩ => ⟨S1024x128, .f32⟩
  | .hbm, ⟨6, _⟩ => ⟨S1024x12, .f32⟩
  | .hbm, ⟨7, _⟩ => ⟨S_, .i32⟩
  | .hbm, ⟨8, _⟩ => ⟨S1, .i32⟩
  | .hbm, ⟨9, _⟩ => ⟨S1024x128, .f32⟩
  | .hbm, ⟨10, _⟩ => ⟨S1024x1152, .f32⟩
  | .hbm, ⟨11, _⟩ => ⟨S1024x384, .f32⟩
  | .hbm, ⟨12, _⟩ => ⟨S1024x1152, .f32⟩
  | .hbm, ⟨13, _⟩ => ⟨S1024x256, .f32⟩
  | .hbm, ⟨14, _⟩ => ⟨S1024x3072, .f32⟩
  | .hbm, ⟨15, _⟩ => ⟨S1024x3072, .bf16⟩
  | .hbm, ⟨16, _⟩ => ⟨S384, .i32⟩
  | .hbm, ⟨17, _⟩ => ⟨S384x1, .i32⟩
  | .hbm, ⟨18, _⟩ => ⟨S_, .i32⟩
  | .hbm, ⟨19, _⟩ => ⟨S_, .i32⟩
  | .hbm, ⟨20, _⟩ => ⟨S384x1, .i32⟩
  | .hbm, ⟨21, _⟩ => ⟨S384x1, .i32⟩
  | .hbm, ⟨22, _⟩ => ⟨S384x1, .i32⟩
  | .hbm, ⟨23, _⟩ => ⟨S_, .i32⟩
  | .hbm, ⟨24, _⟩ => ⟨S384x1, .i32⟩
  | .hbm, ⟨25, _⟩ => ⟨S384x1, .i1⟩
  | .hbm, ⟨26, _⟩ => ⟨S384x1, .i32⟩
  | .hbm, ⟨27, _⟩ => ⟨S384x1, .i32⟩
  | .hbm, ⟨28, _⟩ => ⟨S_, .i32⟩
  | .hbm, ⟨29, _⟩ => ⟨S384x1, .i32⟩
  | .hbm, ⟨30, _⟩ => ⟨S384x1, .i1⟩
  | .hbm, ⟨31, _⟩ => ⟨S384x1, .i1⟩
  | .hbm, ⟨32, _⟩ => ⟨S_, .i32⟩
  | .hbm, ⟨33, _⟩ => ⟨S384x1, .i32⟩
  | .hbm, ⟨34, _⟩ => ⟨S384x1, .i32⟩
  | .hbm, ⟨35, _⟩ => ⟨S384x1, .i32⟩
  | .hbm, ⟨36, _⟩ => ⟨S384, .i32⟩
  | .hbm, ⟨37, _⟩ => ⟨S1x384, .i32⟩
  | .hbm, ⟨38, _⟩ => ⟨S_, .i32⟩
  | .hbm, ⟨39, _⟩ => ⟨S_, .i32⟩
  | .hbm, ⟨40, _⟩ => ⟨S1x384, .i32⟩
  | .hbm, ⟨41, _⟩ => ⟨S1x384, .i32⟩
  | .hbm, ⟨42, _⟩ => ⟨S1x384, .i32⟩
  | .hbm, ⟨43, _⟩ => ⟨S_, .i32⟩
  | .hbm, ⟨44, _⟩ => ⟨S1x384, .i32⟩
  | .hbm, ⟨45, _⟩ => ⟨S1x384, .i1⟩
  | .hbm, ⟨46, _⟩ => ⟨S1x384, .i32⟩
  | .hbm, ⟨47, _⟩ => ⟨S1x384, .i32⟩
  | .hbm, ⟨48, _⟩ => ⟨S_, .i32⟩
  | .hbm, ⟨49, _⟩ => ⟨S1x384, .i32⟩
  | .hbm, ⟨50, _⟩ => ⟨S1x384, .i1⟩
  | .hbm, ⟨51, _⟩ => ⟨S1x384, .i1⟩
  | .hbm, ⟨52, _⟩ => ⟨S_, .i32⟩
  | .hbm, ⟨53, _⟩ => ⟨S1x384, .i32⟩
  | .hbm, ⟨54, _⟩ => ⟨S1x384, .i32⟩
  | .hbm, ⟨55, _⟩ => ⟨S1x384, .i32⟩
  | .hbm, ⟨56, _⟩ => ⟨S384x384, .i32⟩
  | .hbm, ⟨57, _⟩ => ⟨S384x384, .i32⟩
  | .hbm, ⟨58, _⟩ => ⟨S384x384, .i1⟩
  | .hbm, ⟨59, _⟩ => ⟨S384x384, .bf16⟩
  | .hbm, ⟨60, _⟩ => ⟨S16x4096x384, .f32⟩
  | .hbm, ⟨61, _⟩ => ⟨S16x4096x384, .f32⟩
  | .hbm, ⟨62, _⟩ => ⟨S16x4096x384, .f32⟩
  | .hbm, ⟨63, _⟩ => ⟨S16x4096x384, .f32⟩
  | .hbm, ⟨64, _⟩ => ⟨S16x4096x1152, .bf16⟩
  | .hbm, ⟨65, _⟩ => ⟨S16x4096x256, .f32⟩
  | .hbm, ⟨66, _⟩ => ⟨S16x4096x128, .f32⟩
  | .hbm, ⟨67, _⟩ => ⟨S16x512x768, .f32⟩
  | .hbm, ⟨68, _⟩ => ⟨S16x3x1152, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3x1152, .f32⟩
  | .local _ .vmem, ⟨4, _⟩ => ⟨S1x3x1152, .f32⟩
  | .local _ .vmem, ⟨5, _⟩ => ⟨S4x1152, .f32⟩
  | .local _ .vmem, ⟨6, _⟩ => ⟨S384x384, .bf16⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x1152, .bf16⟩
  | .local _ .vmem, ⟨16, _⟩ => ⟨S1x512x1152, .bf16⟩
  | .local _ .vmem, ⟨17, _⟩ => ⟨S1x512x256, .f32⟩
  | .local _ .vmem, ⟨18, _⟩ => ⟨S1x512x256, .f32⟩
  | .local _ .vmem, ⟨19, _⟩ => ⟨S1x512x128, .f32⟩
  | .local _ .vmem, ⟨20, _⟩ => ⟨S1x512x128, .f32⟩
  | .local _ .vmem, ⟨21, _⟩ => ⟨S1x512x768, .f32⟩
  | .local _ .vmem, ⟨22, _⟩ => ⟨S1x512x768, .f32⟩
  | .local _ .vmem, ⟨23, _⟩ => ⟨S1x3x1152, .f32⟩
  | .local _ .vmem, ⟨24, _⟩ => ⟨S1x3x1152, .f32⟩
  | .local _ .vmem, ⟨25, _⟩ => ⟨S520x1152, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20_0 : Ref sig .tc := ⟨.hbm, 60, rfl⟩
abbrev main_v20_1 : Ref sig .tc := ⟨.hbm, 61, rfl⟩
abbrev main_v20_2 : Ref sig .tc := ⟨.hbm, 62, rfl⟩
abbrev main_v20_3 : Ref sig .tc := ⟨.hbm, 63, rfl⟩
abbrev main_v20_4 : Ref sig .tc := ⟨.hbm, 64, rfl⟩
abbrev main_v20_5 : Ref sig .tc := ⟨.hbm, 65, rfl⟩
abbrev main_v20_6 : Ref sig .tc := ⟨.hbm, 66, rfl⟩
abbrev main_v20_7 : Ref sig .tc := ⟨.hbm, 67, rfl⟩
abbrev main_v20_8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S16x4096x1024 : Shape := ⟨3, ![16, 4096, 1024]⟩
abbrev S16x3x1152 : Shape := ⟨3, ![16, 3, 1152]⟩
abbrev S1024x2956 : Shape := ⟨2, ![1024, 2956]⟩
abbrev S4x1152 : Shape := ⟨2, ![4, 1152]⟩
abbrev S16x4096x2956 : Shape := ⟨3, ![16, 4096, 2956]⟩
abbrev S16x4096x1152 : Shape := ⟨3, ![16, 4096, 1152]⟩
abbrev S16x4099x1152 : Shape := ⟨3, ![16, 4099, 1152]⟩
abbrev S1x1152 : Shape := ⟨2, ![1, 1152]⟩
abbrev S1152 : Shape := ⟨1, ![1152]⟩
abbrev S1x1x1152 : Shape := ⟨3, ![1, 1, 1152]⟩
abbrev S_ : Shape := ⟨0, ![]⟩
abbrev S16x4096x3x6x64 : Shape := ⟨5, ![16, 4096, 3, 6, 64]⟩
abbrev S16x4096x1x6x64 : Shape := ⟨5, ![16, 4096, 1, 6, 64]⟩
abbrev S16x4096x6x64 : Shape := ⟨4, ![16, 4096, 6, 64]⟩
abbrev S16x4096x6 : Shape := ⟨3, ![16, 4096, 6]⟩
abbrev S16x4096x6x1 : Shape := ⟨4, ![16, 4096, 6, 1]⟩
abbrev S16x4096x384 : Shape := ⟨3, ![16, 4096, 384]⟩
abbrev S16x4096x12 : Shape := ⟨3, ![16, 4096, 12]⟩
abbrev S16x4096x128 : Shape := ⟨3, ![16, 4096, 128]⟩
abbrev S16x4096x768 : Shape := ⟨3, ![16, 4096, 768]⟩
abbrev S16x512x768 : Shape := ⟨3, ![16, 512, 768]⟩
abbrev S16x4096x256 : Shape := ⟨3, ![16, 4096, 256]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3x1152, .f32⟩
  | .hbm, ⟨2, _⟩ => ⟨S1024x2956, .f32⟩
  | .hbm, ⟨3, _⟩ => ⟨S4x1152, .f32⟩
  | .hbm, ⟨4, _⟩ => ⟨S16x4096x2956, .f32⟩
  | .hbm, ⟨5, _⟩ => ⟨S16x4096x1152, .f32⟩
  | .hbm, ⟨6, _⟩ => ⟨S16x4099x1152, .f32⟩
  | .hbm, ⟨7, _⟩ => ⟨S16x4096x1152, .f32⟩
  | .hbm, ⟨8, _⟩ => ⟨S1x1152, .f32⟩
  | .hbm, ⟨9, _⟩ => ⟨S1152, .f32⟩
  | .hbm, ⟨10, _⟩ => ⟨S1x1x1152, .f32⟩
  | .hbm, ⟨11, _⟩ => ⟨S16x4096x1152, .f32⟩
  | .hbm, ⟨12, _⟩ => ⟨S16x4096x1152, .f32⟩
  | .hbm, ⟨13, _⟩ => ⟨S_, .f32⟩
  | .hbm, ⟨14, _⟩ => ⟨S16x4096x1152, .f32⟩
  | .hbm, ⟨15, _⟩ => ⟨S16x4096x1152, .f32⟩
  | .hbm, ⟨16, _⟩ => ⟨S16x4096x1152, .f32⟩
  | .hbm, ⟨17, _⟩ => ⟨S1x1152, .f32⟩
  | .hbm, ⟨18, _⟩ => ⟨S1152, .f32⟩
  | .hbm, ⟨19, _⟩ => ⟨S1x1x1152, .f32⟩
  | .hbm, ⟨20, _⟩ => ⟨S16x4096x1152, .f32⟩
  | .hbm, ⟨21, _⟩ => ⟨S16x4096x1152, .f32⟩
  | .hbm, ⟨22, _⟩ => ⟨S16x4096x1152, .f32⟩
  | .hbm, ⟨23, _⟩ => ⟨S16x4096x1152, .f32⟩
  | .hbm, ⟨24, _⟩ => ⟨S1x1152, .f32⟩
  | .hbm, ⟨25, _⟩ => ⟨S1152, .f32⟩
  | .hbm, ⟨26, _⟩ => ⟨S1x1x1152, .f32⟩
  | .hbm, ⟨27, _⟩ => ⟨S16x4096x1152, .f32⟩
  | .hbm, ⟨28, _⟩ => ⟨S16x4096x1152, .f32⟩
  | .hbm, ⟨29, _⟩ => ⟨S16x4096x1152, .f32⟩
  | .hbm, ⟨30, _⟩ => ⟨S16x4096x1152, .f32⟩
  | .hbm, ⟨31, _⟩ => ⟨S1x1152, .f32⟩
  | .hbm, ⟨32, _⟩ => ⟨S1152, .f32⟩
  | .hbm, ⟨33, _⟩ => ⟨S1x1x1152, .f32⟩
  | .hbm, ⟨34, _⟩ => ⟨S16x4096x1152, .f32⟩
  | .hbm, ⟨35, _⟩ => ⟨S16x4096x1152, .f32⟩
  | .hbm, ⟨36, _⟩ => ⟨S16x4096x1152, .f32⟩
  | .hbm, ⟨37, _⟩ => ⟨S16x3x1152, .f32⟩
  | .hbm, ⟨38, _⟩ => ⟨S16x4096x1152, .f32⟩
  | .hbm, ⟨39, _⟩ => ⟨S16x4096x1152, .f32⟩
  | .hbm, ⟨40, _⟩ => ⟨S_, .f32⟩
  | .hbm, ⟨41, _⟩ => ⟨S16x4096x1152, .f32⟩
  | .hbm, ⟨42, _⟩ => ⟨S16x4096x1152, .f32⟩
  | .hbm, ⟨43, _⟩ => ⟨S_, .f32⟩
  | .hbm, ⟨44, _⟩ => ⟨S16x4096x1152, .f32⟩
  | .hbm, ⟨45, _⟩ => ⟨S16x4096x1152, .f32⟩
  | .hbm, ⟨46, _⟩ => ⟨S16x4096x1152, .f32⟩
  | .hbm, ⟨47, _⟩ => ⟨S16x4096x3x6x64, .f32⟩
  | .hbm, ⟨48, _⟩ => ⟨S16x4096x1x6x64, .f32⟩
  | .hbm, ⟨49, _⟩ => ⟨S16x4096x6x64, .f32⟩
  | .hbm, ⟨50, _⟩ => ⟨S16x4096x6x64, .f32⟩
  | .hbm, ⟨51, _⟩ => ⟨S_, .f32⟩
  | .hbm, ⟨52, _⟩ => ⟨S16x4096x6, .f32⟩
  | .hbm, ⟨53, _⟩ => ⟨S16x4096x6x1, .f32⟩
  | .hbm, ⟨54, _⟩ => ⟨S_, .f32⟩
  | .hbm, ⟨55, _⟩ => ⟨S16x4096x6x1, .f32⟩
  | .hbm, ⟨56, _⟩ => ⟨S16x4096x6x1, .f32⟩
  | .hbm, ⟨57, _⟩ => ⟨S16x4096x6x1, .f32⟩
  | .hbm, ⟨58, _⟩ => ⟨S16x4096x6x64, .f32⟩
  | .hbm, ⟨59, _⟩ => ⟨S16x4096x6x64, .f32⟩
  | .hbm, ⟨60, _⟩ => ⟨S_, .f32⟩
  | .hbm, ⟨61, _⟩ => ⟨S16x4096x6x64, .f32⟩
  | .hbm, ⟨62, _⟩ => ⟨S16x4096x6x64, .f32⟩
  | .hbm, ⟨63, _⟩ => ⟨S16x4096x1x6x64, .f32⟩
  | .hbm, ⟨64, _⟩ => ⟨S16x4096x6x64, .f32⟩
  | .hbm, ⟨65, _⟩ => ⟨S16x4096x6x64, .f32⟩
  | .hbm, ⟨66, _⟩ => ⟨S_, .f32⟩
  | .hbm, ⟨67, _⟩ => ⟨S16x4096x6, .f32⟩
  | .hbm, ⟨68, _⟩ => ⟨S16x4096x6x1, .f32⟩
  | .hbm, ⟨69, _⟩ => ⟨S_, .f32⟩
  | .hbm, ⟨70, _⟩ => ⟨S16x4096x6x1, .f32⟩
  | .hbm, ⟨71, _⟩ => ⟨S16x4096x6x1, .f32⟩
  | .hbm, ⟨72, _⟩ => ⟨S16x4096x6x1, .f32⟩
  | .hbm, ⟨73, _⟩ => ⟨S16x4096x6x64, .f32⟩
  | .hbm, ⟨74, _⟩ => ⟨S16x4096x6x64, .f32⟩
  | .hbm, ⟨75, _⟩ => ⟨S16x4096x1x6x64, .f32⟩
  | .hbm, ⟨76, _⟩ => ⟨S16x4096x6x64, .f32⟩
  | .hbm, ⟨77, _⟩ => ⟨S16x4096x384, .f32⟩
  | .hbm, ⟨78, _⟩ => ⟨S16x4096x12, .f32⟩
  | .hbm, ⟨79, _⟩ => ⟨S_, .i32⟩
  | .hbm, ⟨80, _⟩ => ⟨S_, .f32⟩
  | .hbm, ⟨81, _⟩ => ⟨S16x4096x128, .f32⟩
  | .hbm, ⟨82, _⟩ => ⟨S16x4096x1152, .f32⟩
  | .hbm, ⟨83, _⟩ => ⟨S16x4096x768, .f32⟩
  | .hbm, ⟨84, _⟩ => ⟨S16x512x768, .f32⟩
  | .hbm, ⟨85, _⟩ => ⟨S16x4096x384, .f32⟩
  | .hbm, ⟨86, _⟩ => ⟨S16x4096x384, .f32⟩
  | .hbm, ⟨87, _⟩ => ⟨S16x4096x384, .f32⟩
  | .hbm, ⟨88, _⟩ => ⟨S16x4096x1152, .bf16⟩
  | .hbm, ⟨89, _⟩ => ⟨S16x4096x256, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c : Ref sig .tc := ⟨.hbm, 79, rfl⟩
abbrev main_call1_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Proof.Order.lean ====
/- The greatest entry of a finite family of extended reals and the greatest of the rest, an equal value at the lower
   index first: the two places are unique, a stable descending sort puts them at positions 0 and 1, and the least index
   that attains a maximum is the first of them. -/
module

public import Idealize.ShloMosaic.Lib.SortFacts
public import Idealize.ShloMosaic.PureOps.Ideal.Laws

@[expose] public section

noncomputable section

namespace Cert.Order

open Idealize.ShloMosaic

variable {n : Nat} (f : Fin n → EReal)

/-- `a` stands before `b`: a greater value, or the same value at a lower index. -/
def Ahead (a b : Fin n) : Prop := f b < f a ∨ (f b = f a ∧ a < b)

/-- `i` is ahead of every other index. -/
def First (i : Fin n) : Prop := ∀ j, j ≠ i → Ahead f i j

/-- `i'` is ahead of every index but `i` and itself. -/
def Second (i i' : Fin n) : Prop := i' ≠ i ∧ ∀ j, j ≠ i → j ≠ i' → Ahead f i' j

variable {f}

theorem Ahead.asymm {a b : Fin n} (h : Ahead f a b) (h' : Ahead f b a) : False := by
  rcases h with h | ⟨h, hl⟩ <;> rcases h' with h' | ⟨h', hl'⟩
  · exact lt_asymm h h'
  · exact absurd h'.symm (ne_of_lt h)
  · exact absurd h.symm (ne_of_lt h')
  · exact lt_asymm hl hl'

theorem First.unique {i j : Fin n} (hi : First f i) (hj : First f j) : i = j := by
  by_contra h
  exact (hi j (Ne.symm h)).asymm (hj i h)

theorem Second.unique {i a b : Fin n} (ha : Second f i a) (hb : Second f i b) : a = b := by
  by_contra h
  exact (ha.2 b hb.1 (Ne.symm h)).asymm (hb.2 a ha.1 h)

theorem First.le {i : Fin n} (h : First f i) (j : Fin n) : f j ≤ f i := by
  by_cases e : j = i
  · rw [e]
  · rcases h j e with h | ⟨h, _⟩
    · exact h.le
    · exact h.le

theorem Second.le {i i' : Fin n} (h : Second f i i') (j : Fin n) (hj : j ≠ i) : f j ≤ f i' := by
  by_cases e : j = i'
  · rw [e]
  · rcases h.2 j hj e with h | ⟨h, _⟩
    · exact h.le
    · exact h.le

/-! ### The stable descending sort -/

/-- The order a top-k's sort uses: the greater value first. -/
def desc (f : Fin n → EReal) (k k' : Fin n) : Bool := decide (f k' < f k)

theorem ahead_insertBefore (a : Fin n) (l : List (Fin n)) (ha : ∀ b ∈ l, a < b) (hl : l.Pairwise (Ahead f)) :
    (insertBefore (desc f) a l).Pairwise (Ahead f) := by
  induction l with
  | nil => exact List.pairwise_singleton _ _
  | cons b l ih =>
    rw [List.pairwise_cons] at hl
    unfold insertBefore
    split
    · rename_i h
      have h' : f a < f b := of_decide_eq_true h
      refine List.pairwise_cons.mpr ⟨fun c hc => ?_, ih (fun c hc => ha c (List.mem_cons_of_mem _ hc)) hl.2⟩
      rcases List.mem_cons.mp ((perm_insertBefore (desc f) a l).mem_iff.mp hc) with rfl | hc'
      · exact Or.inl h'
      · exact hl.1 c hc'
    · rename_i h
      have h' : f b ≤ f a := not_lt.mp fun hlt => h (decide_eq_true hlt)
      refine List.pairwise_cons.mpr ⟨fun c hc => ?_, List.pairwise_cons.mpr hl⟩
      have hac := ha c hc
      have hcb : f c ≤ f b := by
        rcases List.mem_cons.mp hc with rfl | hc'
        · exact le_refl _
        · rcases hl.1 c hc' with h | ⟨h, _⟩
          · exact h.le
          · exact h.le
      rcases lt_or_eq_of_le (hcb.trans h') with h | h
      · exact Or.inl h
      · exact Or.inr ⟨h, hac⟩

theorem ahead_stableSort (l : List (Fin n)) (hl : l.Pairwise (· < ·)) : (stableSort (desc f) l).Pairwise (Ahead f) := by
  induction l with
  | nil => exact List.Pairwise.nil
  | cons a l ih =>
    rw [List.pairwise_cons] at hl
    unfold stableSort
    exact ahead_insertBefore a _ (fun b hb => hl.1 b ((perm_stableSort _ l).mem_iff.mp hb)) (ih hl.2)

theorem ahead_sortedFrom {i j : Fin n} (hij : i < j) : Ahead f (sortedFrom (desc f) i) (sortedFrom (desc f) j) := by
  have hp : ∀ a b : Fin (sortPositions n (desc f)).length, a < b →
      Ahead f ((sortPositions n (desc f)).get a) ((sortPositions n (desc f)).get b) :=
    List.pairwise_iff_get.mp (ahead_stableSort (List.finRange n) (List.pairwise_lt_finRange n))
  unfold sortedFrom
  exact hp _ _ (by simp only [Fin.lt_def, Fin.val_cast]; exact hij)

theorem first_sortedFrom (k : Fin n) (hk : k.val = 0) : First f (sortedFrom (desc f) k) := by
  intro j hj
  obtain ⟨k', rfl⟩ := sortedFrom_surjective (desc f) j
  refine ahead_sortedFrom ?_
  have : k' ≠ k := fun h => hj (by rw [h])
  have : k'.val ≠ k.val := fun h => this (Fin.ext h)
  rw [Fin.lt_def]; omega

theorem second_sortedFrom (k k' : Fin n) (hk : k.val = 0) (hk' : k'.val = 1) :
    Second f (sortedFrom (desc f) k) (sortedFrom (desc f) k') := by
  refine ⟨fun h => ?_, fun j hj hj' => ?_⟩
  · have := congrArg Fin.val (sortedFrom_injective (desc f) h); omega
  · obtain ⟨a, rfl⟩ := sortedFrom_surjective (desc f) j
    refine ahead_sortedFrom ?_
    have h1 : a.val ≠ k.val := fun h => hj (by rw [Fin.ext h])
    have h2 : a.val ≠ k'.val := fun h => hj' (by rw [Fin.ext h])
    rw [Fin.lt_def]; omega

/-- The first and second indices exist. -/
theorem exists_first (h : 0 < n) : ∃ i, First f i := ⟨_, first_sortedFrom ⟨0, h⟩ rfl⟩

theorem exists_second (h : 1 < n) {i : Fin n} (hi : First f i) : ∃ i', Second f i i' := by
  have h0 := first_sortedFrom (f := f) ⟨0, by omega⟩ rfl
  rw [← First.unique h0 hi]
  exact ⟨_, second_sortedFrom ⟨0, by omega⟩ ⟨1, h⟩ rfl rfl⟩

end Cert.Order

end
-- ==== Proof.Spec.lean ====
/- One token's routed feed-forward and its layer norm, over extended reals: the sixteen affinities, the two chosen
   experts, their gates, the gated sum of the experts, and the norm of the residual sum. -/
module

public import proofs.«01_k».proof.Proof.Order
public import Idealize.ShloMosaic.Lib.Pointwise

@[expose] public section

noncomputable section

namespace Cert.Spec

open Idealize.ShloMosaic Cert.Order

/-- Expert `4 g + m`: the `m`-th member of group `g`. -/
def member (g m : Fin 4) : Fin 16 := ⟨4 * g.val + m.val, by omega⟩

/-- The sum of the greatest and the second greatest of four values. -/
def best2 (a b c d : EReal) : EReal :=
  max (max a b) (max c d) + max (min (max a b) (max c d)) (max (min a b) (min c d))

/-- A group's score: the sum of its two greatest members. -/
def score (s : Fin 16 → EReal) (g : Fin 4) : EReal :=
  best2 (s (member g 0)) (s (member g 1)) (s (member g 2)) (s (member g 3))

/-- The values of group `g`, every other expert at the least value. -/
def masked (s : Fin 16 → EReal) (g : Fin 4) (e : Fin 16) : EReal := if e.val / 4 = g.val then s e else ⊥

/-- `i1`, `i2` are the two experts the token is routed to: the two best of the best group. -/
def Chosen (s : Fin 16 → EReal) (i1 i2 : Fin 16) : Prop :=
  ∃ g, First (score s) g ∧ First (masked s g) i1 ∧ Second (masked s g) i1 i2

theorem Chosen.unique {s : Fin 16 → EReal} {i1 i2 j1 j2 : Fin 16} (h : Chosen s i1 i2) (h' : Chosen s j1 j2) :
    i1 = j1 ∧ i2 = j2 := by
  obtain ⟨g, hg, h1, h2⟩ := h
  obtain ⟨g', hg', h1', h2'⟩ := h'
  obtain rfl := hg.unique hg'
  obtain rfl := h1.unique h1'
  exact ⟨rfl, h2.unique h2'⟩

theorem exists_chosen (s : Fin 16 → EReal) : ∃ i1 i2, Chosen s i1 i2 := by
  obtain ⟨g, hg⟩ := exists_first (f := score s) (by omega)
  obtain ⟨i1, h1⟩ := exists_first (f := masked s g) (by omega)
  obtain ⟨i2, h2⟩ := exists_second (by omega) h1
  exact ⟨i1, i2, g, hg, h1, h2⟩

/-- The weight expert `e` enters with when `i1`, `i2` are chosen: the chosen affinities over their sum. -/
def gate (a : Fin 16 → EReal) (i1 i2 e : Fin 16) : EReal :=
  (if e = i1 then Ideal.div (a i1) (a i1 + a i2) else 0) + (if e = i2 then Ideal.div (a i2) (a i1 + a i2) else 0)

/-- A token's affinity to each expert. -/
def affinity (x : Fin 1024 → EReal) (w : Fin 1024 → Fin 16 → EReal) (e : Fin 16) : EReal :=
  Ideal.logistic (∑ k, x k * w k e)

/-- One hidden unit of an expert: the gated linear unit of its two projections. -/
def unit (x : Fin 1024 → EReal) (wg wu : Fin 1024 → Fin 256 → EReal) (h : Fin 256) : EReal :=
  (∑ k, x k * wg k h) * Ideal.logistic (∑ k, x k * wg k h) * ∑ k, x k * wu k h

/-- One expert's output. -/
def expert (x : Fin 1024 → EReal) (wg wu : Fin 1024 → Fin 256 → EReal) (wd : Fin 256 → Fin 1024 → EReal)
    (d : Fin 1024) : EReal := ∑ h, unit x wg wu h * wd h d

/-- The mean of a row. -/
def mean (y : Fin 1024 → EReal) : EReal := Ideal.div (∑ d, y d) (Ideal.ofBits .f32 0x44800000#32)

/-- The layer norm of a row. -/
def norm (y : Fin 1024 → EReal) (g b : Fin 1024 → EReal) (d : Fin 1024) : EReal :=
  (y d - mean y) * Ideal.rsqrt (mean (fun d => (y d - mean y) * (y d - mean y)) + Ideal.ofBits .f32 0x3727C5AC#32)
    * g d + b d

/-- The residual sum of a token: the row times the norm's scale, plus the experts' outputs weighted by `c`. -/
def residual (x : Fin 1024 → EReal) (c : Fin 16 → EReal) (wg wu : Fin 16 → Fin 1024 → Fin 256 → EReal)
    (wd : Fin 16 → Fin 256 → Fin 1024 → EReal) (d : Fin 1024) : EReal :=
  Ideal.ofBits .f32 0x3FB504F3#32 * x d + ∑ e, expert x (wg e) (wu e) (wd e) d * c e

/-- A token's result. -/
def token (x : Fin 1024 → EReal) (c : Fin 16 → EReal) (wg wu : Fin 16 → Fin 1024 → Fin 256 → EReal)
    (wd : Fin 16 → Fin 256 → Fin 1024 → EReal) (g b : Fin 1024 → EReal) (d : Fin 1024) : EReal :=
  norm (residual x c wg wu wd) g b d

/-- The pair of experts that the scores choose. -/
def pair (s : Fin 16 → EReal) : Fin 16 × Fin 16 := ((exists_chosen s).choose, (exists_chosen s).choose_spec.choose)

theorem pair_chosen (s : Fin 16 → EReal) : Chosen s (pair s).1 (pair s).2 := (exists_chosen s).choose_spec.choose_spec

theorem pair_eq {s : Fin 16 → EReal} {i1 i2 : Fin 16} (h : Chosen s i1 i2) : (pair s).1 = i1 ∧ (pair s).2 = i2 :=
  (pair_chosen s).unique h

/-- The selection scores of a token: its affinities and the bias. -/
def scores (x : Fin 1024 → EReal) (wr : Fin 1024 → Fin 16 → EReal) (bias : Fin 16 → EReal) (e : Fin 16) : EReal :=
  affinity x wr e + bias e

/-- One token of the layer: routed, through its two experts, added to the scaled token, normed. -/
def layer (x : Fin 1024 → EReal) (wr : Fin 1024 → Fin 16 → EReal) (bias : Fin 16 → EReal) (wg wu : Fin 16 → Fin 1024 → Fin 256 → EReal)
    (wd : Fin 16 → Fin 256 → Fin 1024 → EReal) (g b : Fin 1024 → EReal) : Fin 1024 → EReal :=
  token x (gate (affinity x wr) (pair (scores x wr bias)).1 (pair (scores x wr bias)).2) wg wu wd g b

/-- Sixteen terms added in turn, from zero. -/
theorem sum16 (f : Fin 16 → EReal) : ∑ e, f e
    = 0 + f 0 + f 1 + f 2 + f 3 + f 4 + f 5 + f 6 + f 7 + f 8 + f 9 + f 10 + f 11 + f 12 + f 13 + f 14 + f 15 := by
  rw [zero_add]
  simp only [Fin.sum_univ_castSucc, Fin.sum_univ_zero, zero_add]
  rfl

/-- A selection by an equality of two words. -/
theorem select_eq {α : Type} {n : Nat} (a b : BitVec n) (x y : α) :
    Scalar.select (IntOp.cmpi .eq a b) x y = if a = b then x else y := by
  by_cases h : a = b
  · subst h; simp [Scalar.select, IntOp.cmpi]
  · rw [if_neg h]
    have : (a == b) = false := beq_eq_false_iff_ne.mpr h
    simp [Scalar.select, IntOp.cmpi, this]

/-- Two small numbers are the same word only if they are the same. -/
theorem word_inj {a b : Nat} (ha : a < 128) (hb : b < 128) : BitVec.ofNat 32 a = BitVec.ofNat 32 b ↔ a = b := by
  constructor
  · intro h
    have h := congrArg BitVec.toNat h
    simp only [BitVec.toNat_ofNat] at h
    omega
  · rintro rfl; rfl

end Cert.Spec

end
-- ==== Proof.KernelExperts.lean ====
/- The kernel body's block, in layers: the gates, the sixteen experts added in turn, the norm. -/
module

public import proofs.«01_k».proof.Proof.Gen.KernelIdeal.Frame
public import proofs.«01_k».proof.Proof.Spec
public import Idealize.ShloMosaic.Lib.Pipeline.ValueKit.Tiles

@[expose] public section

set_option maxRecDepth 16384

noncomputable section

namespace Cert.KernelBlock

open Cert.KernelIdeal Cert.KernelIdeal.Gen Idealize.ShloMosaic Cert.Spec

/-- The hidden units of one expert on a block of rows, the two projections side by side in `w`. -/
def hiddenV (x : FVec Ideal S512x1024 .bf16) (w : Vec Ideal S1x1024x512 .bf16) : FVec Ideal S512x256 .f32 :=
  have both : FVec Ideal S512x512 .f32 := matmul (φ₂ := .bf16) dot_S512x1024_S1024x512_S512x512_1_0_0_1_n_n none x
    (shapeCast S1024x512 w shapeCasts_S1x1024x512_S1024x512) (constant S512x512 .f32 0x00000000#32)
  mulf (mulf (extractStridedSlice S512x256 ![0, 0] both slices_S512x512_o0_0_S512x256)
      (logistic (extractStridedSlice S512x256 ![0, 0] both slices_S512x512_o0_0_S512x256)))
    (extractStridedSlice S512x256 ![0, 256] both slices_S512x512_o0_256_S512x256)

/-- The column of the gates at the lane `word`, as a sum along the lanes. -/
def gateV (gates : FVec Ideal S512x128 .f32) (word : BitVec 32) : FVec Ideal S512x1 .f32 :=
  shapeCast S512x1 (multiReduction .add [1] S512
    (select (broadcastTo S512x128 (shapeCast S1x128
        (cmpi .eq (iota .tc S1x128 32 [1] iota_S1x128_d1_w32) (broadcast S1x128 word)) shapeCasts_S1x128_S1x128)
        broadcasts_S1x128_S512x128) gates (broadcast S512x128 (Scalar.ofBits .f32 0x00000000#32)))
    0x00000000#32 reduces_S512x128_S512 (.inl rfl) rfl) shapeCasts_S512_S512x1

/-- One expert's gated output on a block of rows. -/
def expertV (x : FVec Ideal S512x1024 .bf16) (gates : FVec Ideal S512x128 .f32) (word : BitVec 32)
    (w : Vec Ideal S1x1024x512 .bf16) (d : Vec Ideal S1x256x1024 .bf16) : FVec Ideal S512x1024 .f32 :=
  mulf (matmul (φ₂ := .bf16) dot_S512x256_S256x1024_S512x1024_1_0_0_1_n_n none (truncf .bf16 (hiddenV x w) bitsLt_bf16_f32)
      (shapeCast S256x1024 d shapeCasts_S1x256x1024_S256x1024) (constant S512x1024 .f32 0x00000000#32))
    (broadcastTo S512x1024 (gateV gates word) broadcasts_S512x1_S512x1024)

/-- A row block less its rows' means. -/
def centreV (y : FVec Ideal S512x1024 .f32) : FVec Ideal S512x1024 .f32 :=
  subf y (broadcastTo S512x1024 (divf (shapeCast S512x1 (multiReduction .add [1] S512 y 0x00000000#32
    reduces_S512x1024_S512 (.inl rfl) rfl) shapeCasts_S512_S512x1) (broadcast S512x1 (Scalar.ofBits .f32 0x44800000#32)))
    broadcasts_S512x1_S512x1024)

/-- The residual sum of a block of rows. -/
def residualV (x acc : FVec Ideal S512x1024 .f32) : FVec Ideal S512x1024 .f32 :=
  addf (mulf (broadcast S512x1024 (Scalar.ofBits .f32 0x3FB504F3#32)) x) acc

/-- The sum of the squares of a block's rows. -/
def squaresV (y : FVec Ideal S512x1024 .f32) : FVec Ideal S512x1 .f32 :=
  shapeCast S512x1 (multiReduction .add [1] S512 (mulf y y) 0x00000000#32 reduces_S512x1024_S512 (.inl rfl) rfl)
    shapeCasts_S512_S512x1

/-! ### The body's own cuts are these layers -/

section
variable (x : FVec Ideal S512x1024 .bf16) (gates : FVec Ideal S512x128 .f32) (acc : FVec Ideal S512x1024 .f32)
  (w w' : Vec Ideal S1x1024x512 .bf16) (d d' : Vec Ideal S1x256x1024 .bf16)

theorem cut0 (v78 : IVec S16x512 32) (v138 v139 : FVec Ideal S1x512 .f32) (v146 : FVec Ideal S16x512 .f32)
    (v147 : IVec S16x512 32) : k0_pay29 x v78 v138 v139 v146 v147 w d
      = addf (broadcast S512x1024 (Scalar.ofBits .f32 0x00000000#32))
          (expertV x (k0_pay28 v78 v138 v139 v146 v147) 0#32 w d) := rfl

theorem cut1 : k0_pay32 x gates acc (k0_pay30 w) (k0_pay31 d) (constant S512x512 .f32 0x00000000#32) w' d'
    = addf (addf acc (expertV x gates 1#32 w d)) (expertV x gates 2#32 w' d') := rfl

theorem cut3 : k0_pay33 x gates acc w d = addf acc (expertV x gates 3#32 w d) := rfl

theorem cut4 : k0_pay37 x gates acc (k0_pay34 d) (k0_pay35 x w) (k0_pay36 gates) w' d'
    = addf (addf acc (expertV x gates 4#32 w d)) (expertV x gates 5#32 w' d') := rfl

theorem cut6 : k0_pay42 x gates acc (k0_pay38 d) (k0_pay40 x w) (k0_pay41 x w) w' d'
    = addf (addf acc (expertV x gates 6#32 w d)) (expertV x gates 7#32 w' d') := rfl

theorem cut8 : k0_pay44 x gates acc (k0_pay43 w) d = addf acc (expertV x gates 8#32 w d) := rfl

theorem cut9 : k0_pay48 x gates acc (k0_pay45 d) (k0_pay46 gates) (k0_pay47 x w)
      (constant S512x1024 .f32 0x00000000#32) w' d'
    = addf (addf acc (expertV x gates 9#32 w d)) (expertV x gates 10#32 w' d') := rfl

theorem cut11 : k0_pay52 x gates acc (k0_pay49 d) (k0_pay50 x w) k0_pay51 w' d'
    = addf (addf acc (expertV x gates 11#32 w d)) (expertV x gates 12#32 w' d') := rfl

theorem cut13 : k0_pay55 x gates acc (k0_pay53 w) (k0_pay54 d) (constant S512x512 .f32 0x00000000#32) w' d'
    = addf (addf acc (expertV x gates 13#32 w d)) (expertV x gates 14#32 w' d') := rfl

theorem cut15 (v1 : FVec Ideal S512x1024 .f32) : k0_pay58 v1 x gates acc w d
    = centreV (residualV v1 (addf acc (expertV x gates 15#32 w d))) := rfl

theorem cutSquares (v1 : FVec Ideal S512x1024 .f32) : k0_pay59 v1 x gates acc w d
    = squaresV (k0_pay58 v1 x gates acc w d) := rfl

end

/-! ### The layers read at an index -/

theorem hiddenV_apply (x : FVec Ideal S512x1024 .bf16) (w : Vec Ideal S1x1024x512 .bf16) (t : Fin 512) (h : Fin 256) :
    hiddenV x w (ix2 t h) = Spec.unit (fun k => x (ix2 t k)) (fun k h => w (ix3 0 k ⟨h.val, by omega⟩))
      (fun k h => w (ix3 0 k ⟨256 + h.val, by omega⟩)) h := by
  pointwise [hiddenV, Spec.unit]

theorem gateV_apply (gates : FVec Ideal S512x128 .f32) (word : BitVec 32) (t : Fin 512) :
    gateV gates word (ix2 t 0) = ∑ l : Fin 128, if BitVec.ofNat 32 l.val = word then gates (ix2 t l) else 0 := by
  pointwise [gateV]
  exact Finset.sum_congr rfl fun l _ => select_eq _ _ _ _

theorem gateV_lane (gates : FVec Ideal S512x128 .f32) (e : Fin 16) (t : Fin 512) :
    gateV gates (BitVec.ofNat 32 e.val) (ix2 t 0) = gates (ix2 t ⟨e.val, by omega⟩) := by
  rw [gateV_apply, Finset.sum_eq_single (⟨e.val, by omega⟩ : Fin 128), if_pos rfl]
  · intro l _ hl
    exact if_neg fun h => hl (Fin.ext ((word_inj (by omega) (by omega)).mp h))
  · exact fun h => absurd (Finset.mem_univ _) h

theorem expertV_apply (x : FVec Ideal S512x1024 .bf16) (gates : FVec Ideal S512x128 .f32) (word : BitVec 32)
    (w : Vec Ideal S1x1024x512 .bf16) (d : Vec Ideal S1x256x1024 .bf16) (t : Fin 512) (l : Fin 1024) :
    expertV x gates word w d (ix2 t l)
      = (∑ h, hiddenV x w (ix2 t h) * d (ix3 0 h l)) * gateV gates word (ix2 t 0) := by
  pointwise [expertV]

theorem residualV_apply (x acc : FVec Ideal S512x1024 .f32) (t : Fin 512) (l : Fin 1024) :
    residualV x acc (ix2 t l) = Ideal.ofBits .f32 0x3FB504F3#32 * x (ix2 t l) + acc (ix2 t l) := by
  pointwise [residualV]

theorem centreV_apply (y : FVec Ideal S512x1024 .f32) (t : Fin 512) (l : Fin 1024) :
    centreV y (ix2 t l) = y (ix2 t l) - mean (fun d => y (ix2 t d)) := by
  pointwise [centreV, mean]

theorem squaresV_apply (y : FVec Ideal S512x1024 .f32) (t : Fin 512) :
    squaresV y (ix2 t 0) = ∑ d, y (ix2 t d) * y (ix2 t d) := by
  pointwise [squaresV]

theorem normV_apply (g b : FVec Ideal S1x1024 .f32) (y : FVec Ideal S512x1024 .f32) (t : Fin 512) (l : Fin 1024) :
    k0_pay1 g b (centreV y) (squaresV (centreV y)) k0_pay60 (ix2 t l)
      = norm (fun d => y (ix2 t d)) (fun d => g (ix2 0 d)) (fun d => b (ix2 0 d)) l := by
  pointwise [k0_pay1, k0_pay60]
  rw [centreV_apply, squaresV_apply]
  simp only [centreV_apply]
  rfl

/-- One expert's term of the sum, its weights' blocks cut out of the stacks. -/
theorem expert_at (x : FVec Ideal S512x1024 .bf16) (gates : FVec Ideal S512x128 .f32) (x3 : Vec Ideal S16x1024x512 .bf16)
    (x4 : Vec Ideal S16x256x1024 .bf16) (e : Fin 16) (off : Fin 3 → Nat) (h0 : off = ![e.val, 0, 0])
    (inb : ∀ a, off a + S1x1024x512.size a ≤ S16x1024x512.size a)
    (inb' : ∀ a, off a + S1x256x1024.size a ≤ S16x256x1024.size a) (t : Fin 512) (l : Fin 1024) :
    expertV x gates (BitVec.ofNat 32 e.val) (View.ld x3 (Rect.unit (s := S16x1024x512) off S1x1024x512.size inb))
        (View.ld x4 (Rect.unit (s := S16x256x1024) off S1x256x1024.size inb')) (ix2 t l)
      = expert (fun k => x (ix2 t k)) (fun k h => x3 (ix3 e k ⟨h.val, by omega⟩))
          (fun k h => x3 (ix3 e k ⟨256 + h.val, by omega⟩)) (fun h d => x4 (ix3 e h d)) l
        * gates (ix2 t ⟨e.val, by omega⟩) := by
  have hw : ∀ k h, View.ld x3 (Rect.unit (s := S16x1024x512) off S1x1024x512.size inb) (ix3 0 k h) = x3 (ix3 e k h) := by
    intro k h
    refine View.ld_unit_apply_of x3 off _ inb _ _ fun a => ?_
    subst h0
    match a with
    | ⟨0, _⟩ => rfl
    | ⟨1, _⟩ => exact (Nat.zero_add _).symm
    | ⟨2, _⟩ => exact (Nat.zero_add _).symm
  have hd : ∀ h d, View.ld x4 (Rect.unit (s := S16x256x1024) off S1x256x1024.size inb') (ix3 0 h d) = x4 (ix3 e h d) := by
    intro k h
    refine View.ld_unit_apply_of x4 off _ inb' _ _ fun a => ?_
    subst h0
    match a with
    | ⟨0, _⟩ => rfl
    | ⟨1, _⟩ => exact (Nat.zero_add _).symm
    | ⟨2, _⟩ => exact (Nat.zero_add _).symm
  rw [expertV_apply, gateV_lane]
  simp only [hiddenV_apply, hw, hd]
  rfl

theorem hz2 : (![0, 0] : Fin 2 → Nat) = fun _ => 0 := by funext a; match a with | ⟨0, _⟩ => rfl | ⟨1, _⟩ => rfl

/-- The block the body leaves, at an index: the token's result with the gates the body computed. -/
theorem out_apply (x0 : Vec Ideal S512x1024 .f32) (x1 : Vec Ideal S1024x128 .bf16) (x2 : Vec Ideal S128x1 .f32)
    (x3 : Vec Ideal S16x1024x512 .bf16) (x4 : Vec Ideal S16x256x1024 .bf16) (x5 x6 : Vec Ideal S1x1024 .f32)
    (t : Fin 512) (l : Fin 1024) :
    out0_7 x0 x1 x2 x3 x4 x5 x6 (ix2 t l)
      = token (fun k => x0 (ix2 t k)) (fun e => k0_pay74 x0 x1 x2 x3 x4 x5 x6 (ix2 t ⟨e.val, by omega⟩))
          (fun e k h => x3 (ix3 e k ⟨h.val, by omega⟩)) (fun e k h => x3 (ix3 e k ⟨256 + h.val, by omega⟩))
          (fun e h d => x4 (ix3 e h d)) (fun d => x5 (ix2 0 d)) (fun d => x6 (ix2 0 d)) l := by
  have hx : ∀ t k, k0_pay62 x0 x1 x2 x3 x4 x5 x6 (ix2 t k) = x0 (ix2 t k) := by
    intro t k
    unfold k0_pay62
    rw [View.ld_unit_zero hz2]
    pointwise [k0_pay3, k0_pay2]
  have hx' : ∀ t k, k0_pay61 x0 x1 x2 x3 x4 x5 x6 (ix2 t k) = x0 (ix2 t k) := by
    intro t k
    unfold k0_pay61
    rw [View.ld_unit_zero hz2]
    pointwise [k0_pay2]
  have hg : ∀ d, k0_pay56 (F := Ideal) x5 (ix2 0 d) = x5 (ix2 0 d) := by
    intro d
    pointwise [k0_pay56]
  have hb : ∀ d, k0_pay57 (F := Ideal) x6 (ix2 0 d) = x6 (ix2 0 d) := by
    intro d
    pointwise [k0_pay57]
  unfold out0_7
  rw [View.canon_unit_zero hz2, View.ld_unit_zero hz2, View.ld_unit_zero hz2, cutSquares, cut15, normV_apply]
  simp only [hg, hb]
  unfold token
  congr 1
  funext d
  rw [residualV_apply, hx']
  unfold Spec.residual
  congr 1
  unfold k0_pay75
  rw [cut13, cut11, cut9, cut8, cut6, cut4, cut3, cut1, cut0]
  rw [sum16]
  have E := fun (e : Fin 16) (off : Fin 3 → Nat) h0 inb inb' =>
    expert_at (k0_pay62 x0 x1 x2 x3 x4 x5 x6) (k0_pay74 x0 x1 x2 x3 x4 x5 x6) x3 x4 e off h0 inb inb' t d
  simp only [hx] at E
  refine congrArg₂ (· + ·) ?_ (E 15 _ rfl _ _)
  refine congrArg₂ (· + ·) ?_ (E 14 _ rfl _ _)
  refine congrArg₂ (· + ·) ?_ (E 13 _ rfl _ _)
  refine congrArg₂ (· + ·) ?_ (E 12 _ rfl _ _)
  refine congrArg₂ (· + ·) ?_ (E 11 _ rfl _ _)
  refine congrArg₂ (· + ·) ?_ (E 10 _ rfl _ _)
  refine congrArg₂ (· + ·) ?_ (E 9 _ rfl _ _)
  refine congrArg₂ (· + ·) ?_ (E 8 _ rfl _ _)
  refine congrArg₂ (· + ·) ?_ (E 7 _ rfl _ _)
  refine congrArg₂ (· + ·) ?_ (E 6 _ rfl _ _)
  refine congrArg₂ (· + ·) ?_ (E 5 _ rfl _ _)
  refine congrArg₂ (· + ·) ?_ (E 4 _ rfl _ _)
  refine congrArg₂ (· + ·) ?_ (E 3 _ rfl _ _)
  refine congrArg₂ (· + ·) ?_ (E 2 _ rfl _ _)
  refine congrArg₂ (· + ·) ?_ (E 1 _ rfl _ _)
  exact congrArg₂ (· + ·) Ideal.ofBits_zero_f32 (E 0 _ rfl _ _)

end Cert.KernelBlock

end
-- ==== Proof.Routing.lean ====
/- The routing's scalar facts: a maximum and the least index that attains it, the best of four groups as a word, the
   second maximum once the first is masked out, a group's score from its two best members. -/
module

public import proofs.«01_k».proof.Proof.Spec

@[expose] public section

noncomputable section

namespace Cert.Routing

open Idealize.ShloMosaic Cert.Order Cert.Spec

theorem neg_inf : Ideal.ofBits .f32 0xFF800000#32 = (⊥ : EReal) := by simp [Ideal.ofBits, Ideal.ieee]

/-! ### A maximum, and the least index that attains it -/

theorem fold_max {n : Nat} {f : Fin n → EReal} {i : Fin n} (h : ∀ j, f j ≤ f i) :
    Finset.fold max (Ideal.ofBits .f32 0xFF800000#32) f Finset.univ = f i := by
  rw [neg_inf]
  refine le_antisymm ?_ ?_
  · exact Finset.fold_max_le (f i) |>.mpr ⟨bot_le, fun j _ => h j⟩
  · exact Finset.le_fold_max (f i) |>.mpr (Or.inr ⟨i, Finset.mem_univ _, le_refl _⟩)

theorem toInt_minsi (a b : BitVec 32) : (IntOp.minsi a b).toInt = min a.toInt b.toInt := by
  unfold IntOp.minsi
  by_cases h : a.slt b
  · rw [if_pos h]
    have := BitVec.slt_iff_toInt_lt.mp h
    omega
  · rw [if_neg h]
    have : ¬ a.toInt < b.toInt := fun h' => h (BitVec.slt_iff_toInt_lt.mpr h')
    omega

theorem toInt_small {a : Nat} (h : a < 128) : (BitVec.ofNat 32 a).toInt = a := by
  rw [BitVec.toInt_eq_toNat_of_lt] <;> rw [BitVec.toNat_ofNat, Nat.mod_eq_of_lt (by omega)]
  omega

theorem toInt_fold {n : Nat} (b : BitVec 32) (f : Fin n → BitVec 32) (s : Finset (Fin n)) :
    (Finset.fold IntOp.minsi b f s).toInt = Finset.fold min b.toInt (fun j => (f j).toInt) s :=
  (Finset.fold_hom (op := IntOp.minsi) (op' := min) (fun a b => toInt_minsi a b)).symm

theorem fold_min {n : Nat} {f : Fin n → BitVec 32} {b : BitVec 32} {i : Fin n} (hb : (f i).toInt ≤ b.toInt)
    (h : ∀ j, (f i).toInt ≤ (f j).toInt) : Finset.fold IntOp.minsi b f Finset.univ = f i := by
  refine BitVec.eq_of_toInt_eq ?_
  rw [toInt_fold]
  refine le_antisymm ?_ ?_
  · exact Finset.fold_min_le _ |>.mpr (Or.inr ⟨i, Finset.mem_univ _, le_refl _⟩)
  · exact Finset.le_fold_min _ |>.mpr ⟨hb, fun j _ => h j⟩

/-- The least index at which a family attains its maximum. -/
theorem argmax_word {f : Fin 16 → EReal} {i : Fin 16} (h : First f i) :
    Finset.fold IntOp.minsi 2147483647#32
      (fun e : Fin 16 => if f e = Finset.fold max (Ideal.ofBits .f32 0xFF800000#32) f Finset.univ
        then BitVec.ofNat 32 e.val else 16#32) Finset.univ = BitVec.ofNat 32 i.val := by
  rw [fold_max h.le]
  have hi : (fun e : Fin 16 => if f e = f i then BitVec.ofNat 32 e.val else 16#32) i = BitVec.ofNat 32 i.val := if_pos rfl
  refine (fold_min (i := i) ?_ ?_).trans hi
  · rw [if_pos rfl, toInt_small (by omega)]
    have : (2147483647#32 : BitVec 32).toInt = 2147483647 := by decide
    omega
  · intro j
    rw [if_pos rfl, toInt_small (by omega)]
    by_cases hj : f j = f i
    · simp only [if_pos hj]
      rw [toInt_small (by omega)]
      by_cases e : j = i
      · subst e; exact le_refl _
      · rcases h j e with h | ⟨_, h⟩
        · exact absurd hj (ne_of_lt h)
        · have := Fin.lt_def.mp h; omega
    · simp only [if_neg hj]
      have : (16#32 : BitVec 32).toInt = 16 := by decide
      omega

/-! ### The best group, compared in turn -/

theorem group_word {s0 s1 s2 s3 : EReal} {g : Fin 4} (h : First ![s0, s1, s2, s3] g) :
    (if (if (if s0 < s1 then s1 else s0) < s2 then s2 else if s0 < s1 then s1 else s0) < s3 then 3#32
      else if (if s0 < s1 then s1 else s0) < s2 then 2#32 else if s0 < s1 then 1#32 else 0#32) = BitVec.ofNat 32 g.val := by
  have h0 := h 0; have h1 := h 1; have h2 := h 2; have h3 := h 3
  simp only [Ahead] at h0 h1 h2 h3
  match g with
  | 0 =>
    have e1 : s1 ≤ s0 := (h1 (by decide)).elim le_of_lt fun h => le_of_eq h.1
    have e2 : s2 ≤ s0 := (h2 (by decide)).elim le_of_lt fun h => le_of_eq h.1
    have e3 : s3 ≤ s0 := (h3 (by decide)).elim le_of_lt fun h => le_of_eq h.1
    rw [if_neg (not_lt.mpr e1), if_neg (not_lt.mpr e2), if_neg (not_lt.mpr e3), if_neg (not_lt.mpr e2),
      if_neg (not_lt.mpr e1)]
    rfl
  | 1 =>
    have e0 : s0 < s1 := (h0 (by decide)).elim id fun h => absurd h.2 (by decide)
    have e2 : s2 ≤ s1 := (h2 (by decide)).elim le_of_lt fun h => le_of_eq h.1
    have e3 : s3 ≤ s1 := (h3 (by decide)).elim le_of_lt fun h => le_of_eq h.1
    rw [if_pos e0, if_neg (not_lt.mpr e2), if_neg (not_lt.mpr e3), if_neg (not_lt.mpr e2), if_pos e0]
    rfl
  | 2 =>
    have e0 : s0 < s2 := (h0 (by decide)).elim id fun h => absurd h.2 (by decide)
    have e1 : s1 < s2 := (h1 (by decide)).elim id fun h => absurd h.2 (by decide)
    have e3 : s3 ≤ s2 := (h3 (by decide)).elim le_of_lt fun h => le_of_eq h.1
    have e : (if s0 < s1 then s1 else s0) < s2 := by split <;> assumption
    rw [if_pos e, if_neg (not_lt.mpr e3), if_pos e]
    rfl
  | 3 =>
    have e0 : s0 < s3 := (h0 (by decide)).elim id fun h => absurd h.2 (by decide)
    have e1 : s1 < s3 := (h1 (by decide)).elim id fun h => absurd h.2 (by decide)
    have e2 : s2 < s3 := (h2 (by decide)).elim id fun h => absurd h.2 (by decide)
    have e : (if (if s0 < s1 then s1 else s0) < s2 then s2 else if s0 < s1 then s1 else s0) < s3 := by
      split_ifs <;> assumption
    rw [if_pos e]
    rfl

theorem first_scores {s : Fin 16 → EReal} {g : Fin 4} (h : First (score s) g) :
    First ![score s 0, score s 1, score s 2, score s 3] g := by
  have : ![score s 0, score s 1, score s 2, score s 3] = score s := by
    funext g; match g with | 0 => rfl | 1 => rfl | 2 => rfl | 3 => rfl
  rw [this]; exact h

/-! ### The second maximum -/

theorem second_above {s : Fin 16 → EReal} (hs : ∀ e, ⊥ < s e) {g : Fin 4} {i1 i2 : Fin 16}
    (h : Second (masked s g) i1 i2) : ⊥ < masked s g i2 := by
  have key : ∀ m : Fin 4, ⊥ < masked s g (member g m) := by
    intro m
    have : (member g m).val / 4 = g.val := by unfold member; simp only; omega
    unfold masked
    rw [if_pos this]
    exact hs _
  by_cases e : member g 0 = i1
  · refine lt_of_lt_of_le (key 1) (h.le _ fun e' => ?_)
    have := congrArg Fin.val (e.trans e'.symm)
    simp [member] at this
  · exact lt_of_lt_of_le (key 0) (h.le _ e)

/-- With the first masked out, the second is first. -/
theorem first_rest {f : Fin 16 → EReal} {i1 i2 : Fin 16} (h : Second f i1 i2) (hb : ⊥ < f i2) :
    First (fun e => if e = i1 then ⊥ else f e) i2 := by
  intro j hj
  unfold Ahead
  simp only [if_neg h.1]
  by_cases e : j = i1
  · rw [if_pos e]; exact Or.inl hb
  · rw [if_neg e]; exact h.2 j e hj

/-! ### A group's score from a sort of its members -/

theorem score_sorted {r : Fin 4 → EReal} {i j : Fin 4} (hi : First r i) (hj : Second r i j) :
    r i + r j = best2 (r 0) (r 1) (r 2) (r 3) := by
  have h1 : max (max (r 0) (r 1)) (max (r 2) (r 3)) = r i := by
    refine le_antisymm (max_le (max_le (hi.le _) (hi.le _)) (max_le (hi.le _) (hi.le _))) ?_
    match i with
    | 0 => simp
    | 1 => simp
    | 2 => simp
    | 3 => simp
  have h2 : max (min (max (r 0) (r 1)) (max (r 2) (r 3))) (max (min (r 0) (r 1)) (min (r 2) (r 3))) = r j := by
    have a0 := hi.le 0; have a1 := hi.le 1; have a2 := hi.le 2; have a3 := hi.le 3
    have b0 := hj.le 0; have b1 := hj.le 1; have b2 := hj.le 2; have b3 := hj.le 3
    have hne := hj.1
    have hr := fun k : Fin 4 => le_refl (r k)
    match i, j, hne, a0, a1, a2, a3, b0, b1, b2, b3 with
    | 0, 0, hne, _, _, _, _, _, _, _, _ => exact absurd rfl hne
    | 0, 1, _, a0, a1, a2, a3, b0, b1, b2, b3 => have b2 := b2 (by decide); have b3 := b3 (by decide); simp [*]
    | 0, 2, _, a0, a1, a2, a3, b0, b1, b2, b3 => have b1 := b1 (by decide); have b3 := b3 (by decide); simp [*]
    | 0, 3, _, a0, a1, a2, a3, b0, b1, b2, b3 => have b1 := b1 (by decide); have b2 := b2 (by decide); simp [*]
    | 1, 1, hne, _, _, _, _, _, _, _, _ => exact absurd rfl hne
    | 1, 0, _, a0, a1, a2, a3, b0, b1, b2, b3 => have b2 := b2 (by decide); have b3 := b3 (by decide); simp [*]
    | 1, 2, _, a0, a1, a2, a3, b0, b1, b2, b3 => have b0 := b0 (by decide); have b3 := b3 (by decide); simp [*]
    | 1, 3, _, a0, a1, a2, a3, b0, b1, b2, b3 => have b0 := b0 (by decide); have b2 := b2 (by decide); simp [*]
    | 2, 2, hne, _, _, _, _, _, _, _, _ => exact absurd rfl hne
    | 2, 0, _, a0, a1, a2, a3, b0, b1, b2, b3 => have b1 := b1 (by decide); have b3 := b3 (by decide); simp [*]
    | 2, 1, _, a0, a1, a2, a3, b0, b1, b2, b3 => have b0 := b0 (by decide); have b3 := b3 (by decide); simp [*]
    | 2, 3, _, a0, a1, a2, a3, b0, b1, b2, b3 => have b0 := b0 (by decide); have b1 := b1 (by decide); simp [*]
    | 3, 3, hne, _, _, _, _, _, _, _, _ => exact absurd rfl hne
    | 3, 0, _, a0, a1, a2, a3, b0, b1, b2, b3 => have b1 := b1 (by decide); have b2 := b2 (by decide); simp [*]
    | 3, 1, _, a0, a1, a2, a3, b0, b1, b2, b3 => have b0 := b0 (by decide); have b2 := b2 (by decide); simp [*]
    | 3, 2, _, a0, a1, a2, a3, b0, b1, b2, b3 => have b0 := b0 (by decide); have b1 := b1 (by decide); simp [*]
  unfold best2
  rw [h1, h2]

/-- A sum over the experts selected by a word is the one expert's term. -/
theorem sum_select (a : Fin 16 → EReal) (i : Fin 16) :
    (∑ e : Fin 16, if BitVec.ofNat 32 e.val = BitVec.ofNat 32 i.val then a e else 0) = a i := by
  rw [Finset.sum_eq_single i, if_pos rfl]
  · intro e _ he
    exact if_neg fun h => he (Fin.ext ((word_inj (by omega) (by omega)).mp h))
  · exact fun h => absurd (Finset.mem_univ _) h

theorem word_eq_iff (e i : Fin 16) : BitVec.ofNat 32 e.val = BitVec.ofNat 32 i.val ↔ e = i :=
  (word_inj (by omega) (by omega)).trans Fin.ext_iff.symm

/-- An affinity is not negative. -/
theorem logistic_nonneg (x : EReal) : 0 ≤ Ideal.logistic x := by
  induction x using EReal.rec with
  | bot => rw [Ideal.logistic_bot]
  | top => rw [Ideal.logistic_top]; exact zero_le_one
  | coe r =>
    rw [Ideal.logistic_coe]
    exact EReal.coe_nonneg.mpr (by positivity)

theorem above_bot {x b : EReal} (h : ⊥ < b) : ⊥ < Ideal.logistic x + b := by
  rw [EReal.bot_lt_add_iff]
  exact ⟨lt_of_lt_of_le EReal.bot_lt_zero (logistic_nonneg x), h⟩

end Cert.Routing

end
-- ==== Proof.KernelRouting.lean ====
/- The kernel body's gates: at each token the two best experts of the best group, their affinities over their sum. -/
module

public import proofs.«01_k».proof.Proof.KernelExperts
public import proofs.«01_k».proof.Proof.Routing

@[expose] public section

set_option maxRecDepth 16384

noncomputable section

namespace Cert.KernelBlock

open Cert.KernelIdeal Cert.KernelIdeal.Gen Idealize.ShloMosaic Cert.Spec Cert.Order Cert.Routing

section
variable (x : FVec Ideal S512x1024 .f32) (w : FVec Ideal S1024x128 .bf16) (b : FVec Ideal S128x1 .f32) (t : Fin 512)

theorem pay4_apply (e : Fin 16) :
    k0_pay4 (F := Ideal) x w (ix2 e t) = affinity (fun k => x (ix2 t k)) (fun k e => w (ix2 k ⟨e.val, by omega⟩)) e := by
  pointwise [k0_pay4, k0_pay3, k0_pay2, affinity]

theorem pay5_apply (e : Fin 16) :
    k0_pay5 (F := Ideal) x w b (ix2 e t) = k0_pay4 (F := Ideal) x w (ix2 e t) + b (ix2 ⟨e.val, by omega⟩ 0) := by
  pointwise [k0_pay5]

theorem pay6_apply : k0_pay6 (F := Ideal) x w b (ix2 0 t) = score (fun e => k0_pay5 (F := Ideal) x w b (ix2 e t)) 0 := by
  pointwise [k0_pay6]
  rfl

theorem pay7_apply : k0_pay7 (F := Ideal) x w b (ix2 0 t) = score (fun e => k0_pay5 (F := Ideal) x w b (ix2 e t)) 1 := by
  pointwise [k0_pay7]
  rfl

theorem pay1415_apply : k0_pay14 (F := Ideal) x w b (ix2 0 t) + k0_pay15 (F := Ideal) x w b (ix2 0 t)
    = score (fun e => k0_pay5 (F := Ideal) x w b (ix2 e t)) 2 := by
  pointwise [k0_pay8, k0_pay9, k0_pay10, k0_pay11, k0_pay12, k0_pay13, k0_pay14, k0_pay15]
  rfl
end

theorem pay16_apply (v13 : FVec Ideal S16x512 .f32) (a b c d : FVec Ideal S1x512 .f32) (t : Fin 512) {g : Fin 4}
    (h : First ![a (ix2 0 t), b (ix2 0 t), c (ix2 0 t) + d (ix2 0 t), score (fun e => v13 (ix2 e t)) 3] g) :
    k0_pay16 (F := Ideal) v13 a b c d (ix2 0 t) = BitVec.ofNat 32 g.val := by
  pointwise [k0_pay16]
  exact group_word h

/-- An expert's group, as the body divides: its index over four. -/
theorem groupOf (e : Fin 16) (t : Fin 512) :
    Scalar.select (k0_pay18 (ix2 e t)) (IntOp.subi (k0_pay17 (ix2 e t)) (k0_pay19 (ix2 e t))) (k0_pay17 (ix2 e t))
      = BitVec.ofNat 32 (e.val / 4) := by
  pointwise [k0_pay17, k0_pay18, k0_pay19]
  revert e
  decide +kernel

theorem iota_apply (e : Fin 16) (t : Fin 512) :
    iota .tc S16x512 32 [0] iota_S16x512_d0_w32 (ix2 e t) = BitVec.ofNat 32 e.val := by
  pointwise []

section
variable (v10 v13 : FVec Ideal S16x512 .f32) (v77 : IVec S1x512 32) (v78 : IVec S16x512 32) (t : Fin 512)
  {g : Fin 4} {i1 i2 : Fin 16}
  (h78 : ∀ e : Fin 16, v78 (ix2 e t) = BitVec.ofNat 32 e.val)
  (h77 : v77 (ix2 0 t) = BitVec.ofNat 32 g.val)

include h77 in
theorem pay20_apply (e : Fin 16) :
    k0_pay20 (F := Ideal) v13 v77 k0_pay17 k0_pay18 k0_pay19 (ix2 e t) = masked (fun e => v13 (ix2 e t)) g e := by
  pointwise [k0_pay20]
  rw [groupOf, h77, select_eq, neg_inf]
  unfold masked
  exact if_congr (word_inj (by omega) (by omega)) rfl rfl

include h77 h78 in
theorem pay21_apply (h1 : First (masked (fun e => v13 (ix2 e t)) g) i1) :
    k0_pay21 (F := Ideal) v13 v77 v78 k0_pay17 k0_pay18 k0_pay19 (ix2 0 t) = BitVec.ofNat 32 i1.val := by
  pointwise [k0_pay21]
  simp only [pay20_apply v13 v77 t h77, h78]
  exact argmax_word h1

include h77 h78 in
theorem pay22_apply (h1 : First (masked (fun e => v13 (ix2 e t)) g) i1)
    (h2 : Second (masked (fun e => v13 (ix2 e t)) g) i1 i2) (hs : ∀ e, ⊥ < v13 (ix2 e t)) :
    k0_pay22 (F := Ideal) v13 v77 v78 k0_pay17 k0_pay18 k0_pay19 (ix2 0 t) = BitVec.ofNat 32 i2.val := by
  pointwise [k0_pay22]
  simp only [pay20_apply v13 v77 t h77, pay21_apply v13 v77 v78 t h78 h77 h1, h78, select_eq, word_eq_iff]
  rw [← argmax_word (first_rest h2 (second_above hs h2)), neg_inf]

include h77 h78 in
theorem pay23_apply (h1 : First (masked (fun e => v13 (ix2 e t)) g) i1) :
    k0_pay23 (F := Ideal) v10 v13 v77 v78 k0_pay17 k0_pay18 k0_pay19 (ix2 0 t) = v10 (ix2 i1 t) := by
  pointwise [k0_pay23]
  simp only [pay21_apply v13 v77 v78 t h78 h77 h1, h78, select_eq]
  exact sum_select (fun e => v10 (ix2 e t)) i1

include h77 h78 in
theorem pay24_apply (h1 : First (masked (fun e => v13 (ix2 e t)) g) i1)
    (h2 : Second (masked (fun e => v13 (ix2 e t)) g) i1 i2) (hs : ∀ e, ⊥ < v13 (ix2 e t)) :
    k0_pay24 (F := Ideal) v10 v13 v77 v78 k0_pay17 k0_pay18 k0_pay19 (ix2 0 t) = v10 (ix2 i2 t) := by
  pointwise [k0_pay24]
  simp only [pay22_apply v13 v77 v78 t h78 h77 h1 h2 hs, h78, select_eq]
  exact sum_select (fun e => v10 (ix2 e t)) i2

include h77 h78 in
theorem pay25_apply (h1 : First (masked (fun e => v13 (ix2 e t)) g) i1)
    (h2 : Second (masked (fun e => v13 (ix2 e t)) g) i1 i2) (hs : ∀ e, ⊥ < v13 (ix2 e t)) :
    k0_pay25 (F := Ideal) v10 v13 v77 v78 k0_pay17 k0_pay18 k0_pay19 (ix2 0 t) = v10 (ix2 i1 t) + v10 (ix2 i2 t) := by
  pointwise [k0_pay25]
  rw [pay23_apply v10 v13 v77 v78 t h78 h77 h1, pay24_apply v10 v13 v77 v78 t h78 h77 h1 h2 hs]

include h77 h78 in
theorem gates_apply (h1 : First (masked (fun e => v13 (ix2 e t)) g) i1)
    (h2 : Second (masked (fun e => v13 (ix2 e t)) g) i1 i2) (hs : ∀ e, ⊥ < v13 (ix2 e t)) (e : Fin 16) :
    k0_pay28 (F := Ideal) v78 (k0_pay24 v10 v13 v77 v78 k0_pay17 k0_pay18 k0_pay19)
        (k0_pay25 v10 v13 v77 v78 k0_pay17 k0_pay18 k0_pay19) (k0_pay26 v10 v13 v77 v78 k0_pay17 k0_pay18 k0_pay19)
        (k0_pay27 v13 v77 v78 k0_pay17 k0_pay18 k0_pay19) (ix2 t ⟨e.val, by omega⟩)
      = gate (fun e => v10 (ix2 e t)) i1 i2 e := by
  pointwise [k0_pay28, k0_pay26, k0_pay27]
  simp only [pay21_apply v13 v77 v78 t h78 h77 h1, pay22_apply v13 v77 v78 t h78 h77 h1 h2 hs,
    pay23_apply v10 v13 v77 v78 t h78 h77 h1, pay24_apply v10 v13 v77 v78 t h78 h77 h1 h2 hs,
    pay25_apply v10 v13 v77 v78 t h78 h77 h1 h2 hs, h78, select_eq, word_eq_iff]
  rfl

end

/-- THE GATES OF A BLOCK: with the two chosen experts of each token's selection values, none of them the least value. -/
theorem gates_of_block (x0 : Vec Ideal S512x1024 .f32) (x1 : Vec Ideal S1024x128 .bf16) (x2 : Vec Ideal S128x1 .f32)
    (x3 : Vec Ideal S16x1024x512 .bf16) (x4 : Vec Ideal S16x256x1024 .bf16) (x5 x6 : Vec Ideal S1x1024 .f32)
    (t : Fin 512) (a s : Fin 16 → EReal)
    (ha : a = affinity (fun k => x0 (ix2 t k)) (fun k e => x1 (ix2 k ⟨e.val, by omega⟩)))
    (hsel : s = fun e => a e + x2 (ix2 ⟨e.val, by omega⟩ 0))
    (hs : ∀ e, ⊥ < s e) {i1 i2 : Fin 16} (h : Chosen s i1 i2) (e : Fin 16) :
    k0_pay74 x0 x1 x2 x3 x4 x5 x6 (ix2 t ⟨e.val, by omega⟩) = gate a i1 i2 e := by
  obtain ⟨g, hg, h1, h2⟩ := h
  have e4 : ∀ e, k0_pay4 (F := Ideal) x0 x1 (ix2 e t) = a e := fun e => by rw [pay4_apply, ha]
  have e5 : (fun e => k0_pay5 (F := Ideal) x0 x1 x2 (ix2 e t)) = s := by
    funext e; rw [pay5_apply, e4, hsel]
  have e5' : ∀ e, k0_pay5 (F := Ideal) x0 x1 x2 (ix2 e t) = s e := fun e => congrFun e5 e
  unfold k0_pay74 k0_pay73 k0_pay72 k0_pay71 k0_pay70 k0_pay69 k0_pay68 k0_pay67 k0_pay66 k0_pay65 k0_pay64 k0_pay63
  rw [View.ld_unit_zero hz2, View.ld_unit_zero hz2, View.ld_unit_zero hz2]
  rw [gates_apply (g := g) (i1 := i1) (i2 := i2)]
  · simp only [e4]
  · exact fun e => iota_apply e t
  · refine pay16_apply _ _ _ _ _ _ ?_
    rw [pay6_apply, pay7_apply, pay1415_apply, e5]
    exact first_scores hg
  · rw [e5]; exact h1
  · rw [e5]; exact h2
  · intro e; rw [e5']; exact hs e

end Cert.KernelBlock

end
-- ==== Proof.KernelHost.lean ====
module

public import proofs.«01_k».proof.Proof.Gen.KernelIdeal.Frame
public import Idealize.ShloMosaic.Lib.StableHlo.ReadAt
public import Idealize.ShloMosaic.Lib.Routing.OpsOne
public import Idealize.ShloMosaic.Lib.Pointwise

/-! The arrays that the host code hands to the pallas_call, read at an index: the padded router and bias agree with
the arguments on the 16 true experts, the joined gate and up weights are the two arguments side by side. -/

@[expose] public section

noncomputable section

namespace Cert.KernelHost

open Cert.KernelIdeal Cert.KernelIdeal.Gen Idealize.ShloMosaic Idealize.ShloMosaic.TcCoe Idealize.SL.Sem Idealize.ShloMosaic.Routing

/-- A block of columns written at column `k`: update `(a', b')` lands at `(a, b)` exactly when the rows agree and `b` is `k + b'`. -/
theorem lands_columns {A N U : Nat} (d : ScatterDims (shape2 A N) (shape1 1) (shape2 A U)) (huw : d.updateWindowDims = [0, 1])
    (hiw : d.insertedWindowDims = []) (hsd : d.scatterDimsToOperandDims = [1]) (idx : IVec (shape1 1) 32)
    (hidx : (idx (ix1 0)).toInt = 0) (a' a : Fin A) (b' : Fin U) (b : Fin N) :
    d.resultIdx? (ValueIdx.ix2 a' b') idx = some (ValueIdx.ix2 a b) ↔ a' = a ∧ b'.val = b.val := by
  have hkept : d.sKept = [0, 1] := by
    show (shape2 A N).kept d.insertedWindowDims = _
    rw [hiw]
    rfl
  have hwin (q : Fin 2) : d.window (ValueIdx.ix2 a' b') q = ((ValueIdx.ix2 a' b' : (shape2 A U).Idx) q).val := by
    unfold ScatterDims.window
    rw [dif_pos (by rw [hkept]; fin_cases q <;> simp)]
    have key (l l' : List (Fin 2)) (h : l.idxOf q < l'.length) (e : l = [0, 1]) (e' : l' = [0, 1]) : l'[l.idxOf q] = q := by
      subst e e'
      fin_cases q <;> rfl
    exact congrArg (fun z : Fin 2 => ((ValueIdx.ix2 a' b' : (shape2 A U).Idx) z).val) (key _ _ _ hkept huw)
  have hstart0 : d.start (ValueIdx.ix2 a' b') idx 0 = 0 := by
    unfold ScatterDims.start
    rw [dif_neg fun h => by rw [hsd] at h; exact absurd (List.mem_singleton.1 h) (by decide : (0 : Fin 2) ≠ 1)]
  have hstart1 : d.start (ValueIdx.ix2 a' b') idx 1 = 0 := by
    unfold ScatterDims.start
    split
    · rename_i h
      have : d.siIdx (ValueIdx.ix2 a' b') ⟨d.scatterDimsToOperandDims.idxOf 1, List.idxOf_lt_length_iff.2 h⟩ = ix1 (0 : Fin 1) := by
        funext q
        match q with
        | ⟨0, _⟩ => exact Subsingleton.elim (α := Fin 1) _ _
      rw [this, hidx]
    · rfl
  rw [Fin.ext_iff, resultIdx?_ix2, hstart0, hstart1, hwin, hwin]
  show (0 : Int) + (a'.val : Int) = a.val ∧ (0 : Int) + (b'.val : Int) = b.val ↔ _
  omega

variable (m : (ℓ : Loc nD τ sig) → Buf (Elt Ideal) ℓ) (c : Dev nD)

/-- The tokens, the batches one after the other. -/
theorem rows (j : S65536x1024.Idx) :
    V m c main_v10 j = shapeCast S65536x1024 (m (c, Proc.devRef .tc main_arg0)) shapeCasts_S16x4096x1024_S65536x1024 j := by
  unfold V
  after_reads_at

/-- The padded router on a true expert. -/
theorem router (k : Fin 1024) (e : Fin 16) :
    V m c main_v11 (ix2 k (⟨e.val, by omega⟩ : Fin 128)) = m (c, Proc.devRef .tc main_arg1) (ix2 k e) := by
  unfold V
  after_reads_at
  have lands := fun (a' : Fin 1024) (b' : Fin 16) => lands_columns scatter_S1024x128_S1_S1024x16_01_n_1_0 rfl rfl rfl
    (broadcastInDim S1 ![] bcast_S_S1 (constantI S_ 32 0#32)) rfl a' k b' ⟨e.val, by omega⟩
  refine scatter_set_hit _ _ _ _ _ _ (fun j hj => ?_) (ix2 k e) ((lands k e).2 ⟨rfl, rfl⟩)
  obtain ⟨h1, h2⟩ := (lands (j 0) (j 1)).1 ((congrArg (fun t => ScatterDims.resultIdx? _ t _) (eq_ix2 j).symm).trans hj)
  rw [eq_ix2 j, h1]
  exact congrArg (fun q => m (c, Proc.devRef .tc main_arg1) (ix2 k q)) (Fin.ext h2)

/-- The two index words of the bias write are 0. -/
theorem origin (q : Fin 2) (hc : Shape.Concatenates [S1, S1] S2 0) :
    concatenate S2 0 [⟨S1, broadcastInDim S1 ![] bcast_S_S1 (constantI S_ 32 0#32)⟩, ⟨S1, broadcastInDim S1 ![] bcast_S_S1 (constantI S_ 32 0#32)⟩] hc (ValueIdx.ix1 q) = 0#32 := by
  have h : (ValueIdx.ix1 q : S2.Idx) = ix1 q := rfl
  rw [h]
  pointwise
  split <;> rfl

/-- The padded bias on a true expert. -/
theorem bias (e : Fin 16) :
    V m c main_v7 (ix2 (⟨e.val, by omega⟩ : Fin 128) 0) = m (c, Proc.devRef .tc main_arg2) (ix1 e) := by
  unfold V
  after_reads_at
  have h4 : StableHlo.upto (hostOps0 (F := Ideal)) (fun b => m (c, b)) 11 (Proc.tc.devRef main_v4) = broadcastInDim S1 ![] bcast_S_S1 (constantI S_ 32 0#32) := by
    after_reads_simp
  have h5 : StableHlo.upto (hostOps0 (F := Ideal)) (fun b => m (c, b)) 11 (Proc.tc.devRef main_v5) = broadcastInDim S1 ![] bcast_S_S1 (constantI S_ 32 0#32) := by
    after_reads_simp
  rw [h4, h5, scatter_column_signed scatter_S128x1_S2_S16_0_1_01_0 (by decide) rfl rfl rfl, origin, origin, if_pos]
  · refine congrArg (fun q => m (c, Proc.devRef .tc main_arg2) (ix1 q)) (Fin.ext ?_)
    show ((e.val : Int) - 0).toNat % 16 = e.val
    omega
  · refine ⟨rfl, ?_, ?_⟩
    · show (0 : Int) ≤ (e.val : Int)
      omega
    · show (e.val : Int) < 0 + 16
      omega

/-- The left half of the joined weights is the gate's. -/
theorem gates (e : Fin 16) (k : Fin 1024) (h : Fin 256) :
    V m c main_v9 (ix3 e k (⟨h.val, by omega⟩ : Fin 512)) = m (c, Proc.devRef .tc main_arg3) (ix3 e k h) := by
  unfold V
  after_reads_at
  after_reads_simp

/-- The right half is the up projection's. -/
theorem ups (e : Fin 16) (k : Fin 1024) (h : Fin 256) :
    V m c main_v9 (ix3 e k (⟨256 + h.val, by omega⟩ : Fin 512)) = m (c, Proc.devRef .tc main_arg4) (ix3 e k h) := by
  unfold V
  after_reads_at
  after_reads_simp

/-- The down projections. -/
theorem downs (j : S16x256x1024.Idx) : V m c main_v12 j = m (c, Proc.devRef .tc main_arg5) j := by
  unfold V
  after_reads_at

/-- The norm's gain, as a row. -/
theorem gain (j : Fin 1024) : V m c main_v13 (ix2 0 j) = m (c, Proc.devRef .tc main_arg6) (ix1 j) := by
  unfold V
  after_reads_at

/-- The norm's shift, as a row. -/
theorem shift (j : Fin 1024) : V m c main_v14 (ix2 0 j) = m (c, Proc.devRef .tc main_arg7) (ix1 j) := by
  unfold V
  after_reads_at

end Cert.KernelHost
-- ==== Proof.KernelValue.lean ====
module

public import proofs.«01_k».proof.Proof.Gen.KernelIdeal.Value
public import proofs.«01_k».proof.Proof.KernelRouting
public import proofs.«01_k».proof.Proof.KernelHost
public import Idealize.ShloMosaic.Lib.Pipeline.ValueKit

/-! What the kernel leaves in its result: at every token the layer of that token. -/

@[expose] public section

set_option maxRecDepth 16384

noncomputable section

namespace Cert.KernelResult

open Cert.KernelIdeal Cert.KernelIdeal.Gen Idealize.ShloMosaic Idealize.ShloMosaic.TcCoe Idealize.SL.Sem Cert.Spec

variable (m : (ℓ : Loc nD τ sig) → Buf (Elt Ideal) ℓ) (c : Dev nD)

/-- The tokens as rows. -/
def tokens : S65536x1024.Idx → EReal :=
  shapeCast S65536x1024 (m (c, Proc.devRef .tc main_arg0)) shapeCasts_S16x4096x1024_S65536x1024

theorem rows_read (j : S65536x1024.Idx) : V m c main_v10 j = tokens m c j := by
  rw [KernelHost.rows]
  rfl

/-- The layer of every token, of the launch's arguments. -/
def result (j : S65536x1024.Idx) : EReal :=
  layer (fun k => tokens m c (ix2 (j 0) k)) (fun k e => m (c, Proc.devRef .tc main_arg1) (ix2 k e))
    (fun e => m (c, Proc.devRef .tc main_arg2) (ix1 e)) (fun e k h => m (c, Proc.devRef .tc main_arg3) (ix3 e k h))
    (fun e k h => m (c, Proc.devRef .tc main_arg4) (ix3 e k h)) (fun e h d => m (c, Proc.devRef .tc main_arg5) (ix3 e h d))
    (fun d => m (c, Proc.devRef .tc main_arg6) (ix1 d)) (fun d => m (c, Proc.devRef .tc main_arg7) (ix1 d)) (j 1)

/-- Block `t` of the rows and of the result starts at row `512 t`; the other blocks are whole arrays. -/
theorem index_facts : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![t.val, 0] :=
  (by decide +kernel : ∀ t : Fin grid0.N, win0_0.index t = ![t.val, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![t.val, 0])

section
variable (t : Fin cfg0.N)

theorem place (r : Fin 512) : t.val * 512 + r.val < 65536 := by
  have := t.isLt
  have : cfg0.N = 128 := N_0
  omega

theorem rows_block (r : Fin 512) (k : Fin 1024) : iblk m c 0 t (ix2 r k) = tokens m c (ix2 ⟨t.val * 512 + r.val, place t r⟩ k) := by
  have h : iblk m c 0 t (ix2 r k) = V m c main_v10 (ix2 ⟨t.val * 512 + r.val, place t r⟩ k) := by
    blk_ext [iblk, (index_facts t).1]
  rw [h]
  exact rows_read m c _

theorem router_whole (k : Fin 1024) (e : Fin 128) : iblk m c 1 t (ix2 k e) = V m c main_v11 (ix2 k e) := by
  unfold iblk
  refine congrArg (V m c main_v11) (funext fun a => Fin.ext ?_)
  blk_simp [(index_facts t).2.1]
  match a with
  | ⟨0, _⟩ => exact Nat.zero_add _
  | ⟨1, _⟩ => exact Nat.zero_add _

theorem router_block (k : Fin 1024) (e : Fin 16) :
    iblk m c 1 t (ix2 k (⟨e.val, by omega⟩ : Fin 128)) = m (c, Proc.devRef .tc main_arg1) (ix2 k e) := by
  exact (router_whole m c t k _).trans (KernelHost.router m c k e)

theorem bias_block (e : Fin 16) :
    iblk m c 2 t (ix2 (⟨e.val, by omega⟩ : Fin 128) 0) = m (c, Proc.devRef .tc main_arg2) (ix1 e) := by
  refine Eq.trans ?_ (KernelHost.bias m c e)
  blk_ext [iblk, (index_facts t).2.2.1]

theorem gate_block (e : Fin 16) (k : Fin 1024) (h : Fin 256) :
    iblk m c 3 t (ix3 e k (⟨h.val, by omega⟩ : Fin 512)) = m (c, Proc.devRef .tc main_arg3) (ix3 e k h) := by
  refine Eq.trans ?_ (KernelHost.gates m c e k h)
  blk_ext [iblk, (index_facts t).2.2.2.1]

theorem up_block (e : Fin 16) (k : Fin 1024) (h : Fin 256) :
    iblk m c 3 t (ix3 e k (⟨256 + h.val, by omega⟩ : Fin 512)) = m (c, Proc.devRef .tc main_arg4) (ix3 e k h) := by
  refine Eq.trans ?_ (KernelHost.ups m c e k h)
  blk_ext [iblk, (index_facts t).2.2.2.1]

theorem down_block (e : Fin 16) (h : Fin 256) (d : Fin 1024) :
    iblk m c 4 t (ix3 e h d) = m (c, Proc.devRef .tc main_arg5) (ix3 e h d) := by
  refine Eq.trans ?_ (KernelHost.downs m c _)
  blk_ext [iblk, (index_facts t).2.2.2.2.1]

theorem gain_block (d : Fin 1024) : iblk m c 5 t (ix2 0 d) = m (c, Proc.devRef .tc main_arg6) (ix1 d) := by
  refine Eq.trans ?_ (KernelHost.gain m c d)
  blk_ext [iblk, (index_facts t).2.2.2.2.2.1]

theorem shift_block (d : Fin 1024) : iblk m c 6 t (ix2 0 d) = m (c, Proc.devRef .tc main_arg7) (ix1 d) := by
  refine Eq.trans ?_ (KernelHost.shift m c d)
  blk_ext [iblk, (index_facts t).2.2.2.2.2.2.1]

/-- What point `t` stores at row `r` is the layer of token `512 t + r`. -/
theorem stored (B : Fin 16 → EReal) (hB : B = fun e => m (c, Proc.devRef .tc main_arg2) (ix1 e)) (hb : ∀ e, ⊥ < B e) (r : Fin 512) (l : Fin 1024) :
    out0_7 (iblk m c 0 t) (iblk m c 1 t) (iblk m c 2 t) (iblk m c 3 t) (iblk m c 4 t) (iblk m c 5 t) (iblk m c 6 t) (ix2 r l)
      = result m c (ix2 ⟨t.val * 512 + r.val, place t r⟩ l) := by
  let X : Fin 1024 → EReal := fun k => tokens m c (ix2 ⟨t.val * 512 + r.val, place t r⟩ k)
  let W : Fin 1024 → Fin 16 → EReal := fun k e => m (c, Proc.devRef .tc main_arg1) (ix2 k e)
  have hx : (fun k => iblk m c 0 t (ix2 r k)) = X := funext (rows_block m c t r)
  have hw : (fun (k : Fin 1024) (e : Fin 16) => iblk m c 1 t (ix2 k (⟨e.val, by omega⟩ : Fin 128))) = W :=
    funext fun k => funext (router_block m c t k)
  have hs : scores X W B = fun e => affinity X W e + iblk m c 2 t (ix2 (⟨e.val, by omega⟩ : Fin 128) 0) := by
    funext e
    rw [bias_block m c t e, hB]
    rfl
  have hg := fun e => KernelBlock.gates_of_block (iblk m c 0 t) (iblk m c 1 t) (iblk m c 2 t) (iblk m c 3 t) (iblk m c 4 t) (iblk m c 5 t)
    (iblk m c 6 t) r (affinity X W) (scores X W B) (by rw [← hx, ← hw]) hs (fun e => Routing.above_bot (hb e)) (pair_chosen _) e
  rw [KernelBlock.out_apply, funext hg, hx, funext fun e => funext fun k => funext (gate_block m c t e k),
    funext fun e => funext fun k => funext (up_block m c t e k), funext fun e => funext fun h => funext (down_block m c t e h),
    funext (gain_block m c t), funext (shift_block m c t), hB]
  rfl

end

/-- The result array after the run. -/
theorem final (B : Fin 16 → EReal) (hB : B = fun e => m (c, Proc.devRef .tc main_arg2) (ix1 e)) (hb : ∀ e, ⊥ < B e) :
    (dats m 0 c).arrAt 7 cfg0.N = result m c := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, eq_ix2 y⟩
  refine (stored m c t B hB hb r l).trans (congrArg (result m c) ?_)
  blk_ext [(index_facts t).2.2.2.2.2.2.2]

/-- The run: the result is the layer, the arguments are as they were. -/
theorem run (ρ : Dev nD → PrngReg) (hb : ∀ c : Dev nD, ∃ B : Fin 16 → EReal, (B = fun e => m (c, Proc.devRef .tc main_arg2) (ix1 e)) ∧ ∀ e, ⊥ < B e) :
    θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (by obtain ⟨B, hB, hb⟩ := hb c; exact final m c B hB hb), (h c).2⟩)
    (Value.run_blocks m ρ)

end Cert.KernelResult
-- ==== Proof.TopKRead.lean ====
/- The top-k of rows, read at an index: column `c` is the entry at position `c` of the row sorted descending, the lower index first on ties. -/
module

public import proofs.«01_k».proof.Proof.Order
public import Idealize.ShloMosaic.Lib.Pointwise

@[expose] public section

noncomputable section

namespace Cert.TopK

open Idealize.ShloMosaic Cert.Order

/-- The comparison of an ideal top-k. -/
theorem gt_eq (a b : EReal) : (FloatOps.cmpfTotal (F := Ideal) (φ := .f32) .gt a b == 1#1) = decide (b < a) := by
  rw [Ideal.cmpfTotal_def]
  by_cases h : b < a
  · simp [Ideal.cmp, CmpDirection.ordered, h]
  · simp [Ideal.cmp, CmpDirection.ordered, h]

variable {M R N K : Nat}

section
variable (x : (⟨2, ![R, N]⟩ : Shape).Idx → EReal) (h : (⟨2, ![R, N]⟩ : Shape).Slices (fun _ => 0) ⟨2, ![R, K]⟩) (hK : K ≤ N) (r : Fin R) (k : Fin K)

/-- The place in row `r` of column `k` of a top-k. -/
def place : Fin N := sortedFrom (desc fun e => x (ix2 r e)) ⟨k.val, by omega⟩

theorem along2 (e e' : Fin N) : (ix2 r e : (⟨2, ![R, N]⟩ : Shape).Idx).along (1 : Fin 2) e' = ix2 r e' := by
  funext a
  match a with
  | ⟨0, _⟩ => rfl
  | ⟨1, _⟩ => rfl

theorem slice2 {α : Type} (y : (⟨2, ![R, N]⟩ : Shape).Idx → α) : extractStridedSlice ⟨2, ![R, K]⟩ (fun _ => 0) y h (ix2 r k) = y (ix2 r ⟨k.val, by omega⟩) := by
  refine congrArg y (funext fun a => Fin.ext ?_)
  match a with
  | ⟨0, _⟩ => exact Nat.zero_add _
  | ⟨1, _⟩ => exact Nat.zero_add _

theorem sorted2 {β : Type} (y : (⟨2, ![R, N]⟩ : Shape).Idx → β) (e : Fin N) :
    (Host.sort2 ⟨2, ![R, N]⟩ 1 (fun l r => FloatOps.cmpfTotal (F := Ideal) (φ := .f32) .gt l.1 r.1) x y).1 (ix2 r e) = x (ix2 r (sortedFrom (desc fun e => x (ix2 r e)) e))
    ∧ (Host.sort2 ⟨2, ![R, N]⟩ 1 (fun l r => FloatOps.cmpfTotal (F := Ideal) (φ := .f32) .gt l.1 r.1) x y).2 (ix2 r e) = y (ix2 r (sortedFrom (desc fun e => x (ix2 r e)) e)) := by
  have hs : (fun k k' : Fin N => FloatOps.cmpfTotal (F := Ideal) (φ := .f32) .gt (x ((ix2 r e : (⟨2, ![R, N]⟩ : Shape).Idx).along (1 : Fin 2) k)) (x ((ix2 r e : (⟨2, ![R, N]⟩ : Shape).Idx).along (1 : Fin 2) k')) == 1#1)
      = desc fun e => x (ix2 r e) := by
    funext k k'
    rw [along2, along2, gt_eq]
    rfl
  unfold Host.sort2
  rw [dif_pos (by show 1 < 2; omega)]
  exact ⟨(congrArg (fun b : Fin N → Fin N → Bool => x ((ix2 r e : (⟨2, ![R, N]⟩ : Shape).Idx).along (1 : Fin 2) (sortedFrom b e))) hs).trans (congrArg x (along2 r e _)),
    (congrArg (fun b : Fin N → Fin N → Bool => y ((ix2 r e : (⟨2, ![R, N]⟩ : Shape).Idx).along (1 : Fin 2) (sortedFrom b e))) hs).trans (congrArg y (along2 r e _))⟩

theorem values2 : (Host.topK ⟨2, ![R, K]⟩ 1 (FloatOps.cmpfTotal (F := Ideal) (φ := .f32) .gt) x h).1 (ix2 r k) = x (ix2 r (place x hK r k)) := by
  unfold Host.topK
  exact (slice2 h hK r k (Prod.fst (Host.sort2 ⟨2, ![R, N]⟩ 1 (fun l r => FloatOps.cmpfTotal (F := Ideal) (φ := .f32) .gt l.1 r.1) x (fun i => if hd : 1 < (⟨2, ![R, N]⟩ : Shape).rank then iotaInDim ⟨2, ![R, N]⟩ 32 ⟨1, hd⟩ i else 0#32)))).trans (sorted2 x r (fun i => if hd : 1 < (⟨2, ![R, N]⟩ : Shape).rank then iotaInDim ⟨2, ![R, N]⟩ 32 ⟨1, hd⟩ i else 0#32) _).1

theorem indices2 : (Host.topK ⟨2, ![R, K]⟩ 1 (FloatOps.cmpfTotal (F := Ideal) (φ := .f32) .gt) x h).2 (ix2 r k) = BitVec.ofNat 32 (place x hK r k).val := by
  unfold Host.topK
  exact (slice2 h hK r k (Prod.snd (Host.sort2 ⟨2, ![R, N]⟩ 1 (fun l r => FloatOps.cmpfTotal (F := Ideal) (φ := .f32) .gt l.1 r.1) x (fun i => if hd : 1 < (⟨2, ![R, N]⟩ : Shape).rank then iotaInDim ⟨2, ![R, N]⟩ 32 ⟨1, hd⟩ i else 0#32)))).trans (sorted2 x r (fun i => if hd : 1 < (⟨2, ![R, N]⟩ : Shape).rank then iotaInDim ⟨2, ![R, N]⟩ 32 ⟨1, hd⟩ i else 0#32) _).2
end

section
variable (x : (⟨3, ![R, M, N]⟩ : Shape).Idx → EReal) (h : (⟨3, ![R, M, N]⟩ : Shape).Slices (fun _ => 0) ⟨3, ![R, M, K]⟩) (hK : K ≤ N) (r : Fin R) (q : Fin M) (k : Fin K)

theorem along3 (e e' : Fin N) : (ix3 r q e : (⟨3, ![R, M, N]⟩ : Shape).Idx).along (2 : Fin 3) e' = ix3 r q e' := by
  funext a
  match a with
  | ⟨0, _⟩ => rfl
  | ⟨1, _⟩ => rfl
  | ⟨2, _⟩ => rfl

theorem sorted3 {β : Type} (y : (⟨3, ![R, M, N]⟩ : Shape).Idx → β) (e : Fin N) :
    (Host.sort2 ⟨3, ![R, M, N]⟩ 2 (fun l r => FloatOps.cmpfTotal (F := Ideal) (φ := .f32) .gt l.1 r.1) x y).1 (ix3 r q e) = x (ix3 r q (sortedFrom (desc fun e => x (ix3 r q e)) e)) := by
  have hs : (fun k k' : Fin N => FloatOps.cmpfTotal (F := Ideal) (φ := .f32) .gt (x ((ix3 r q e : (⟨3, ![R, M, N]⟩ : Shape).Idx).along (2 : Fin 3) k)) (x ((ix3 r q e : (⟨3, ![R, M, N]⟩ : Shape).Idx).along (2 : Fin 3) k')) == 1#1)
      = desc fun e => x (ix3 r q e) := by
    funext k k'
    rw [along3, along3, gt_eq]
    rfl
  unfold Host.sort2
  rw [dif_pos (by show 2 < 3; omega)]
  exact (congrArg (fun b : Fin N → Fin N → Bool => x ((ix3 r q e : (⟨3, ![R, M, N]⟩ : Shape).Idx).along (2 : Fin 3) (sortedFrom b e))) hs).trans (congrArg x (along3 r q e _))

theorem values3 : (Host.topK ⟨3, ![R, M, K]⟩ 2 (FloatOps.cmpfTotal (F := Ideal) (φ := .f32) .gt) x h).1 (ix3 r q k)
    = x (ix3 r q (sortedFrom (desc fun e => x (ix3 r q e)) ⟨k.val, by omega⟩)) := by
  have hsl (y : (⟨3, ![R, M, N]⟩ : Shape).Idx → EReal) : extractStridedSlice ⟨3, ![R, M, K]⟩ (fun _ => 0) y h (ix3 r q k) = y (ix3 r q ⟨k.val, by omega⟩) := by
    refine congrArg y (funext fun a => Fin.ext ?_)
    match a with
    | ⟨0, _⟩ => exact Nat.zero_add _
    | ⟨1, _⟩ => exact Nat.zero_add _
    | ⟨2, _⟩ => exact Nat.zero_add _
  unfold Host.topK
  refine (hsl (Prod.fst (Host.sort2 ⟨3, ![R, M, N]⟩ 2 (fun l r => FloatOps.cmpfTotal (F := Ideal) (φ := .f32) .gt l.1 r.1) x
    (fun i => if hd : 2 < (⟨3, ![R, M, N]⟩ : Shape).rank then iotaInDim ⟨3, ![R, M, N]⟩ 32 ⟨2, hd⟩ i else 0#32)))).trans ?_
  exact sorted3 x r q _ _
end

end Cert.TopK
-- ==== Proof.ReferenceRouting.lean ====
/- The reference's gates: at each token the two best experts of the best group, their affinities over their sum. -/
module

public import proofs.«01_k».proof.Proof.Gen.ReferenceIdeal.Read
public import proofs.«01_k».proof.Proof.Routing
public import proofs.«01_k».proof.Proof.TopKRead

@[expose] public section

set_option maxRecDepth 16384

noncomputable section

namespace Cert.ReferenceRouting

open Cert.ReferenceIdeal Cert.ReferenceIdeal.Read Idealize.ShloMosaic Cert.Spec Cert.Order Cert.Routing

variable (x0 : FVec Ideal S16x4096x1024 .f32) (x1 : FVec Ideal S1024x16 .f32) (x2 : FVec Ideal S16 .f32) (t : Fin 65536)

/-- A token. -/
abbrev tok (k : Fin 1024) : EReal := val_main_v0 (F := Ideal) x0 (ix2 t k)

theorem v7_apply (e : Fin 16) :
    val_main_v7 (F := Ideal) x0 x1 (ix2 t e) = affinity (tok x0 t) (fun k e => x1 (ix2 k e)) e := by
  pointwise [val_main_v7, val_main_v6, val_main_cst_0, val_main_v5, val_main_v4, val_main_cst, val_main_v3, val_main_v2, val_main_v1, affinity]
  rfl

theorem v10_apply (e : Fin 16) :
    val_main_v10 (F := Ideal) x0 x1 x2 (ix2 t e) = scores (tok x0 t) (fun k e => x1 (ix2 k e)) (fun e => x2 (ix1 e)) e := by
  refine Eq.trans (b := val_main_v7 (F := Ideal) x0 x1 (ix2 t e) + x2 (ix1 e)) ?_ (by rw [v7_apply]; rfl)
  pointwise [val_main_v10, val_main_v9, val_main_v8]

theorem v11_apply (g q : Fin 4) :
    val_main_v11 (F := Ideal) x0 x1 x2 (ix3 t g q) = val_main_v10 (F := Ideal) x0 x1 x2 (ix2 t (member g q)) := by
  pointwise [val_main_v11]
  refine congrArg (fun e => val_main_v10 (F := Ideal) x0 x1 x2 (ix2 t e)) (Fin.ext ?_)
  show g.val * 4 + q.val = 4 * g.val + q.val
  omega

theorem v12_apply (g : Fin 4) :
    val_main_v12 (F := Ideal) x0 x1 x2 (ix2 t g) = val_main_values (F := Ideal) x0 x1 x2 (ix3 t g 0) + val_main_values (F := Ideal) x0 x1 x2 (ix3 t g 1) := by
  pointwise [val_main_v12, val_main_cst_1]
  exact Fin.sum_univ_two _

theorem group_apply (e : Fin 16) : val_main_v15 (F := Ideal) (ix1 e) = BitVec.ofNat 32 (e.val / 4) := by
  pointwise [val_main_v15, val_main_call0_v2, val_main_call0_v13, val_main_call0_v11, val_main_call0_v12, val_main_call0_v10, val_main_call0_v9, val_main_call0_v8, val_main_call0_v7,
    val_main_call0_v6, val_main_call0_v5, val_main_call0_v4, val_main_call0_v3, val_main_call0_v1, val_main_call0_v0, val_main_call0_c, val_main_call0_c_0, val_main_c, val_main_v14]
  fin_cases e <;> decide

theorem v21_apply (e : Fin 16) :
    val_main_v21 (F := Ideal) x0 x1 x2 (ix2 t e)
      = if BitVec.ofNat 32 (e.val / 4) = val_main_indices_3 (F := Ideal) x0 x1 x2 (ix2 t 0) then val_main_v10 (F := Ideal) x0 x1 x2 (ix2 t e) else ⊥ := by
  rw [← group_apply, ← neg_inf, ← select_eq]
  pointwise [val_main_v21, val_main_v20, val_main_v19, val_main_v18, val_main_v17, val_main_v16, val_main_v13, val_main_call1_v1, val_main_call1_v0, val_main_cst_4]
  rfl

section
variable {s : Fin 16 → EReal} (hs : s = scores (tok x0 t) (fun k e => x1 (ix2 k e)) (fun e => x2 (ix1 e)))
include hs

theorem members (g : Fin 4) : (fun q => val_main_v11 (F := Ideal) x0 x1 x2 (ix3 t g q)) = fun q => s (member g q) := by
  funext q
  rw [v11_apply, v10_apply, hs]

/-- The reference's group scores. -/
theorem score_apply (g : Fin 4) : val_main_v12 (F := Ideal) x0 x1 x2 (ix2 t g) = score s g := by
  rw [v12_apply]
  have h0 : val_main_values (F := Ideal) x0 x1 x2 (ix3 t g 0) = s (member g (sortedFrom (desc fun q => s (member g q)) 0)) := by
    refine (TopK.values3 (val_main_v11 (F := Ideal) x0 x1 x2) _ (by omega) t g 0).trans ?_
    rw [members x0 x1 x2 t hs]
    exact congrFun (members x0 x1 x2 t hs g) _
  have h1 : val_main_values (F := Ideal) x0 x1 x2 (ix3 t g 1) = s (member g (sortedFrom (desc fun q => s (member g q)) 1)) := by
    refine (TopK.values3 (val_main_v11 (F := Ideal) x0 x1 x2) _ (by omega) t g 1).trans ?_
    rw [members x0 x1 x2 t hs]
    exact congrFun (members x0 x1 x2 t hs g) _
  rw [h0, h1]
  exact score_sorted (r := fun q => s (member g q)) (first_sortedFrom _ rfl) (second_sortedFrom _ _ rfl rfl)

/-- The place at which the reference's group stands. -/
theorem group_first : ∃ g, First (score s) g ∧ val_main_indices_3 (F := Ideal) x0 x1 x2 (ix2 t 0) = BitVec.ofNat 32 g.val := by
  have h : (fun g => val_main_v12 (F := Ideal) x0 x1 x2 (ix2 t g)) = score s := funext (score_apply x0 x1 x2 t hs)
  refine ⟨sortedFrom (desc (score s)) 0, first_sortedFrom _ rfl, ?_⟩
  refine (TopK.indices2 (val_main_v12 (F := Ideal) x0 x1 x2) _ (by omega) t 0).trans ?_
  unfold TopK.place
  rw [h]
  rfl

/-- The two experts that the reference picks. -/
theorem experts_chosen : ∃ i : Fin 2 → Fin 16, Chosen s (i 0) (i 1)
    ∧ ∀ k, val_main_indices_6 (F := Ideal) x0 x1 x2 (ix2 t k) = BitVec.ofNat 32 (i k).val := by
  obtain ⟨g, hg, hw⟩ := group_first x0 x1 x2 t hs
  have h : (fun e => val_main_v21 (F := Ideal) x0 x1 x2 (ix2 t e)) = masked s g := by
    funext e
    rw [v21_apply, hw, v10_apply, ← hs]
    unfold masked
    exact if_congr (word_inj (by omega) (by omega)) rfl rfl
  refine ⟨fun k => sortedFrom (desc (masked s g)) ⟨k.val, by omega⟩, ⟨g, hg, first_sortedFrom _ rfl, second_sortedFrom _ _ rfl rfl⟩, fun k => ?_⟩
  refine (TopK.indices2 (val_main_v21 (F := Ideal) x0 x1 x2) _ (by omega) t k).trans ?_
  unfold TopK.place
  rw [h]

end

theorem start_apply (k : Fin 2) (i : Fin 16) (h : val_main_indices_6 (F := Ideal) x0 x1 x2 (ix2 t k) = BitVec.ofNat 32 i.val) :
    val_main_call2_v5 (F := Ideal) x0 x1 x2 (ix3 t k 0) = BitVec.ofNat 32 i.val := by
  pointwise [val_main_call2_v5, val_main_call2_v4, val_main_call2_v3, val_main_call2_v2, val_main_call2_v1, val_main_call2_v0, val_main_call2_c, val_main_call2_c_0]
  rw [h]
  fin_cases i <;> decide

theorem inside_apply (k : Fin 2) (i : Fin 16) (h : val_main_call2_v5 (F := Ideal) x0 x1 x2 (ix3 t k 0) = BitVec.ofNat 32 i.val) :
    val_main_call2_v12 (F := Ideal) x0 x1 x2 (ix2 t k) = 1#1 := by
  pointwise [val_main_call2_v12, val_main_call2_c_3, val_main_call2_v11, val_main_call2_v10, val_main_call2_v9, val_main_call2_v8, val_main_call2_v7, val_main_call2_v6, val_main_call2_c_1, val_main_call2_c_2]
  refine (Finset.fold_congr (g := fun _ : Fin 1 => (1#1 : BitVec 1)) fun q _ => ?_).trans (by decide)
  obtain rfl : q = 0 := Subsingleton.elim _ _
  rw [h]
  fin_cases i <;> decide

theorem gather_apply (x : FVec Ideal S65536x16 .f32) (idx : IVec S65536x2x1 32) (k : Fin 2) :
    Host.gather gather_S65536x16_S65536x2x1_S65536x2_n_1_0_0_1_2_11 x idx (ix2 t k) = x (ix2 t ⟨min (idx (ix3 t k 0)).toInt.toNat 15, by omega⟩) := by
  unfold Host.gather
  refine congrArg x (funext fun a => Fin.ext ?_)
  let d := gather_S65536x16_S65536x2x1_S65536x2_n_1_0_0_1_2_11
  show d.start (ix2 t k) idx a + d.batchCoord (ix2 t k) a + d.offCoord (ix2 t k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    have hm : (0 : Fin 2) ∈ d.operandBatchingDims := List.mem_singleton.mpr rfl
    rw [dif_pos hm]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    have hm : (1 : Fin 2) ∈ d.startIndexMap := List.mem_singleton.mpr rfl
    rw [dif_pos hm]
    have hsi : d.siIdx (ix2 t k) ⟨List.idxOf (1 : Fin 2) d.startIndexMap, List.idxOf_lt_length_iff.2 hm⟩ = ix3 t k 0 := by
      funext b
      refine Fin.ext ?_
      match b with
      | ⟨0, _⟩ => rfl
      | ⟨1, _⟩ => rfl
      | ⟨2, _⟩ => rfl
    rw [hsi]
    rfl

theorem select_true {α : Type} (a b : α) : Scalar.select 1#1 a b = a := rfl

theorem v22_apply (k : Fin 2) (i : Fin 16) (h : val_main_indices_6 (F := Ideal) x0 x1 x2 (ix2 t k) = BitVec.ofNat 32 i.val) :
    val_main_v22 (F := Ideal) x0 x1 x2 (ix2 t k) = affinity (tok x0 t) (fun k e => x1 (ix2 k e)) i := by
  have h5 := start_apply x0 x1 x2 t k i h
  have e : val_main_v22 (F := Ideal) x0 x1 x2 (ix2 t k)
      = Scalar.select (val_main_call2_v12 (F := Ideal) x0 x1 x2 (ix2 t k)) (val_main_call2_v13 (F := Ideal) x0 x1 x2 (ix2 t k)) (Ideal.ofBits .f32 0x7FC00000#32) := by
    pointwise [val_main_v22, val_main_call2_v14, val_main_call2_cst]
  rw [e, inside_apply x0 x1 x2 t k i h5, ← v7_apply, select_true]
  unfold val_main_call2_v13
  refine (gather_apply t _ _ k).trans (congrArg (fun e => val_main_v7 (F := Ideal) x0 x1 (ix2 t e)) (Fin.ext ?_))
  show min (val_main_call2_v5 (F := Ideal) x0 x1 x2 (ix3 t k 0)).toInt.toNat 15 = i.val
  rw [h5, toInt_small (by omega)]
  omega

theorem v26_apply (k : Fin 2) : val_main_v26 (F := Ideal) x0 x1 x2 (ix2 t k)
    = Ideal.div (val_main_v22 (F := Ideal) x0 x1 x2 (ix2 t k)) (val_main_v22 (F := Ideal) x0 x1 x2 (ix2 t 0) + val_main_v22 (F := Ideal) x0 x1 x2 (ix2 t 1)) := by
  pointwise [val_main_v26, val_main_v25, val_main_v24, val_main_v23, val_main_cst_7]
  rw [Fin.sum_univ_two]

/-- A place picked out by an equality of words. -/
theorem pick_apply (e i : Fin 16) : FloatOps.uitofp (F := Ideal) .f32 (IntOp.cmpi .eq (BitVec.ofNat 32 i.val) (BitVec.ofNat 32 e.val)) = if e = i then (1 : EReal) else 0 := by
  by_cases h : e = i
  · subst h
    rw [if_pos rfl]
    have : IntOp.cmpi .eq (BitVec.ofNat 32 e.val) (BitVec.ofNat 32 e.val) = 1#1 := by simp [IntOp.cmpi]
    rw [this]
    show (((1#1 : BitVec 1).toNat : ℝ) : EReal) = 1
    simp
  · have h' : ¬ (BitVec.ofNat 32 i.val = BitVec.ofNat 32 e.val) := fun q => h ((word_eq_iff i e).mp q).symm
    have hb : (BitVec.ofNat 32 i.val == BitVec.ofNat 32 e.val) = false := beq_eq_false_iff_ne.mpr h'
    have : IntOp.cmpi .eq (BitVec.ofNat 32 i.val) (BitVec.ofNat 32 e.val) = 0#1 := by simp [IntOp.cmpi, hb]
    rw [if_neg h, this]
    show (((0#1 : BitVec 1).toNat : ℝ) : EReal) = 0
    simp

/-- The reference's weights. -/
theorem gates_apply (e : Fin 16) : val_main_v28 (F := Ideal) x0 x1 x2 (ix2 t e)
    = gate (affinity (tok x0 t) fun k e => x1 (ix2 k e)) (pair (scores (tok x0 t) (fun k e => x1 (ix2 k e)) (fun e => x2 (ix1 e)))).1
        (pair (scores (tok x0 t) (fun k e => x1 (ix2 k e)) (fun e => x2 (ix1 e)))).2 e := by
  obtain ⟨i, hc, hi⟩ := experts_chosen x0 x1 x2 t rfl
  rw [(pair_eq hc).1, (pair_eq hc).2]
  have h0 := v22_apply x0 x1 x2 t 0 _ (hi 0)
  have h1 := v22_apply x0 x1 x2 t 1 _ (hi 1)
  have h28 : val_main_v28 (F := Ideal) x0 x1 x2 (ix2 t e) = ∑ k : Fin 2, val_main_v26 (F := Ideal) x0 x1 x2 (ix2 t k)
      * FloatOps.uitofp (F := Ideal) .f32 (IntOp.cmpi .eq (val_main_indices_6 (F := Ideal) x0 x1 x2 (ix2 t k)) (BitVec.ofNat 32 e.val)) := by
    pointwise [val_main_v28, val_main_v27, val_main_call3_v4, val_main_call3_v3, val_main_call3_v2, val_main_call3_v1, val_main_call3_v0]
  rw [h28, Fin.sum_univ_two, v26_apply, v26_apply, h0, h1, hi, hi, pick_apply, pick_apply]
  unfold gate
  rw [mul_ite, mul_ite, mul_one, mul_one, mul_zero, mul_zero]

end Cert.ReferenceRouting
-- ==== Proof.ReferenceExperts.lean ====
/- The reference's experts and its norm: the gated sum of the sixteen experts, added to the scaled token, normed. -/
module

public import proofs.«01_k».proof.Proof.ReferenceRouting

@[expose] public section

set_option maxRecDepth 16384

noncomputable section

namespace Cert.ReferenceExperts

open Cert.ReferenceIdeal Cert.ReferenceIdeal.Gen Cert.ReferenceIdeal.Read Idealize.ShloMosaic Cert.Spec Cert.ReferenceRouting

section
variable (x : FVec Ideal S65536x1024 .f32) (x3 x4 : FVec Ideal S16x1024x256 .f32) (x5 : FVec Ideal S16x256x1024 .f32) (c : FVec Ideal S65536x16 .f32)
variable (e : Nat) (he : S16x1024x256.Slices ![e, 0, 0] S1x1024x256) (hd : S16x256x1024.Slices ![e, 0, 0] S1x256x1024)
  (hc : S65536x16.Slices ![0, e] S65536x1)

/-- The tokens through one of expert `e`'s two projections. -/
def projected (w : FVec Ideal S16x1024x256 .f32) : FVec Ideal S65536x256 .f32 :=
  Host.dotGeneral dot_S65536x1024_S1024x256_S65536x256_1_0_0_1_n_n none x (shapeCast S1024x256 (extractStridedSlice S1x1024x256 ![e, 0, 0] w he) shapeCasts_S1x1024x256_S1024x256)

/-- The sigmoid of a projection. -/
def sigmoid (y : FVec Ideal S65536x256 .f32) : FVec Ideal S65536x256 .f32 :=
  Host.divf (broadcastInDim S65536x256 ![] bcast_S_S65536x256 (constant S_ .f32 0x3F800000#32))
    (addf (broadcastInDim S65536x256 ![] bcast_S_S65536x256 (constant S_ .f32 0x3F800000#32)) (Host.exp (Host.negf y)))

/-- Expert `e`'s hidden units. -/
def units : FVec Ideal S65536x256 .f32 :=
  mulf (mulf (projected x e he x3) (sigmoid (projected x e he x3))) (projected x e he x4)

/-- Expert `e`'s output, weighted. -/
def weighted : FVec Ideal S65536x1024 .f32 :=
  mulf (Host.dotGeneral dot_S65536x256_S256x1024_S65536x1024_1_0_0_1_n_n none (units x x3 x4 e he)
      (shapeCast S256x1024 (extractStridedSlice S1x256x1024 ![e, 0, 0] x5 hd) shapeCasts_S1x256x1024_S256x1024))
    (broadcastInDim S65536x1024 ![0, 1] bcast_S65536x1_S65536x1024_0_1 (extractStridedSlice S65536x1 ![0, e] c hc))

variable (h16 : e < 16) (t : Fin 65536)

theorem projected_apply (w : FVec Ideal S16x1024x256 .f32) (h : Fin 256) :
    projected x e he w (ix2 t h) = ∑ k : Fin 1024, x (ix2 t k) * w (ix3 ⟨e, h16⟩ k h) := by
  pointwise [projected]

theorem units_apply (h : Fin 256) :
    units x x3 x4 e he (ix2 t h) = unit (fun k => x (ix2 t k)) (fun k h => x3 (ix3 ⟨e, h16⟩ k h)) (fun k h => x4 (ix3 ⟨e, h16⟩ k h)) h := by
  unfold unit
  rw [← projected_apply x e he h16 t x3 h, ← projected_apply x e he h16 t x4 h]
  pointwise [units, sigmoid]
  rfl

theorem weighted_apply (d : Fin 1024) :
    weighted x x3 x4 x5 c e he hd hc (ix2 t d)
      = expert (fun k => x (ix2 t k)) (fun k h => x3 (ix3 ⟨e, h16⟩ k h)) (fun k h => x4 (ix3 ⟨e, h16⟩ k h)) (fun h d => x5 (ix3 ⟨e, h16⟩ h d)) d
        * c (ix2 t ⟨e, h16⟩) := by
  unfold expert
  have h : weighted x x3 x4 x5 c e he hd hc (ix2 t d) = (∑ h : Fin 256, units x x3 x4 e he (ix2 t h) * x5 (ix3 ⟨e, h16⟩ h d)) * c (ix2 t ⟨e, h16⟩) := by
    pointwise [weighted]
  rw [h]
  congr 1
  exact Finset.sum_congr rfl fun q _ => by rw [units_apply x x3 x4 e he h16 t q]

end

section
variable (x0 : FVec Ideal S16x4096x1024 .f32) (x1 : FVec Ideal S1024x16 .f32) (x2 : FVec Ideal S16 .f32) (x3 x4 : FVec Ideal S16x1024x256 .f32)
  (x5 : FVec Ideal S16x256x1024 .f32) (x6 x7 : FVec Ideal S1024 .f32) (t : Fin 65536)

/-- What expert `e` adds at token `t`. -/
def term (e : Fin 16) (d : Fin 1024) : EReal :=
  expert (tok x0 t) (fun k h => x3 (ix3 e k h)) (fun k h => x4 (ix3 e k h)) (fun h d => x5 (ix3 e h d)) d * val_main_v28 (F := Ideal) x0 x1 x2 (ix2 t e)

theorem term0 (d : Fin 1024) : val_main_v43 (F := Ideal) x0 x1 x2 x3 x4 x5 (ix2 t d) = term x0 x1 x2 x3 x4 x5 t 0 d :=
  weighted_apply (val_main_v0 (F := Ideal) x0) x3 x4 x5 (val_main_v28 (F := Ideal) x0 x1 x2) 0 _ _ _ (by omega) t d

theorem term1 (d : Fin 1024) : val_main_v58 (F := Ideal) x0 x1 x2 x3 x4 x5 (ix2 t d) = term x0 x1 x2 x3 x4 x5 t 1 d :=
  weighted_apply (val_main_v0 (F := Ideal) x0) x3 x4 x5 (val_main_v28 (F := Ideal) x0 x1 x2) 1 _ _ _ (by omega) t d

theorem term2 (d : Fin 1024) : val_main_v73 (F := Ideal) x0 x1 x2 x3 x4 x5 (ix2 t d) = term x0 x1 x2 x3 x4 x5 t 2 d :=
  weighted_apply (val_main_v0 (F := Ideal) x0) x3 x4 x5 (val_main_v28 (F := Ideal) x0 x1 x2) 2 _ _ _ (by omega) t d

theorem term3 (d : Fin 1024) : val_main_v88 (F := Ideal) x0 x1 x2 x3 x4 x5 (ix2 t d) = term x0 x1 x2 x3 x4 x5 t 3 d :=
  weighted_apply (val_main_v0 (F := Ideal) x0) x3 x4 x5 (val_main_v28 (F := Ideal) x0 x1 x2) 3 _ _ _ (by omega) t d

theorem term4 (d : Fin 1024) : val_main_v103 (F := Ideal) x0 x1 x2 x3 x4 x5 (ix2 t d) = term x0 x1 x2 x3 x4 x5 t 4 d :=
  weighted_apply (val_main_v0 (F := Ideal) x0) x3 x4 x5 (val_main_v28 (F := Ideal) x0 x1 x2) 4 _ _ _ (by omega) t d

theorem term5 (d : Fin 1024) : val_main_v118 (F := Ideal) x0 x1 x2 x3 x4 x5 (ix2 t d) = term x0 x1 x2 x3 x4 x5 t 5 d :=
  weighted_apply (val_main_v0 (F := Ideal) x0) x3 x4 x5 (val_main_v28 (F := Ideal) x0 x1 x2) 5 _ _ _ (by omega) t d

theorem term6 (d : Fin 1024) : val_main_v133 (F := Ideal) x0 x1 x2 x3 x4 x5 (ix2 t d) = term x0 x1 x2 x3 x4 x5 t 6 d :=
  weighted_apply (val_main_v0 (F := Ideal) x0) x3 x4 x5 (val_main_v28 (F := Ideal) x0 x1 x2) 6 _ _ _ (by omega) t d

theorem term7 (d : Fin 1024) : val_main_v148 (F := Ideal) x0 x1 x2 x3 x4 x5 (ix2 t d) = term x0 x1 x2 x3 x4 x5 t 7 d :=
  weighted_apply (val_main_v0 (F := Ideal) x0) x3 x4 x5 (val_main_v28 (F := Ideal) x0 x1 x2) 7 _ _ _ (by omega) t d

theorem term8 (d : Fin 1024) : val_main_v163 (F := Ideal) x0 x1 x2 x3 x4 x5 (ix2 t d) = term x0 x1 x2 x3 x4 x5 t 8 d :=
  weighted_apply (val_main_v0 (F := Ideal) x0) x3 x4 x5 (val_main_v28 (F := Ideal) x0 x1 x2) 8 _ _ _ (by omega) t d

theorem term9 (d : Fin 1024) : val_main_v178 (F := Ideal) x0 x1 x2 x3 x4 x5 (ix2 t d) = term x0 x1 x2 x3 x4 x5 t 9 d :=
  weighted_apply (val_main_v0 (F := Ideal) x0) x3 x4 x5 (val_main_v28 (F := Ideal) x0 x1 x2) 9 _ _ _ (by omega) t d

theorem term10 (d : Fin 1024) : val_main_v193 (F := Ideal) x0 x1 x2 x3 x4 x5 (ix2 t d) = term x0 x1 x2 x3 x4 x5 t 10 d :=
  weighted_apply (val_main_v0 (F := Ideal) x0) x3 x4 x5 (val_main_v28 (F := Ideal) x0 x1 x2) 10 _ _ _ (by omega) t d

theorem term11 (d : Fin 1024) : val_main_v208 (F := Ideal) x0 x1 x2 x3 x4 x5 (ix2 t d) = term x0 x1 x2 x3 x4 x5 t 11 d :=
  weighted_apply (val_main_v0 (F := Ideal) x0) x3 x4 x5 (val_main_v28 (F := Ideal) x0 x1 x2) 11 _ _ _ (by omega) t d

theorem term12 (d : Fin 1024) : val_main_v223 (F := Ideal) x0 x1 x2 x3 x4 x5 (ix2 t d) = term x0 x1 x2 x3 x4 x5 t 12 d :=
  weighted_apply (val_main_v0 (F := Ideal) x0) x3 x4 x5 (val_main_v28 (F := Ideal) x0 x1 x2) 12 _ _ _ (by omega) t d

theorem term13 (d : Fin 1024) : val_main_v238 (F := Ideal) x0 x1 x2 x3 x4 x5 (ix2 t d) = term x0 x1 x2 x3 x4 x5 t 13 d :=
  weighted_apply (val_main_v0 (F := Ideal) x0) x3 x4 x5 (val_main_v28 (F := Ideal) x0 x1 x2) 13 _ _ _ (by omega) t d

theorem term14 (d : Fin 1024) : val_main_v253 (F := Ideal) x0 x1 x2 x3 x4 x5 (ix2 t d) = term x0 x1 x2 x3 x4 x5 t 14 d :=
  weighted_apply (val_main_v0 (F := Ideal) x0) x3 x4 x5 (val_main_v28 (F := Ideal) x0 x1 x2) 14 _ _ _ (by omega) t d

theorem term15 (d : Fin 1024) : val_main_v268 (F := Ideal) x0 x1 x2 x3 x4 x5 (ix2 t d) = term x0 x1 x2 x3 x4 x5 t 15 d :=
  weighted_apply (val_main_v0 (F := Ideal) x0) x3 x4 x5 (val_main_v28 (F := Ideal) x0 x1 x2) 15 _ _ _ (by omega) t d

/-- The gated sum. -/
theorem experts_apply (d : Fin 1024) :
    val_main_v269 (F := Ideal) x0 x1 x2 x3 x4 x5 (ix2 t d) = ∑ e, term x0 x1 x2 x3 x4 x5 t e d := by
  rw [sum16, ← term0 x0 x1 x2 x3 x4 x5 t d, ← term1 x0 x1 x2 x3 x4 x5 t d, ← term2 x0 x1 x2 x3 x4 x5 t d, ← term3 x0 x1 x2 x3 x4 x5 t d, ← term4 x0 x1 x2 x3 x4 x5 t d, ← term5 x0 x1 x2 x3 x4 x5 t d, ← term6 x0 x1 x2 x3 x4 x5 t d, ← term7 x0 x1 x2 x3 x4 x5 t d, ← term8 x0 x1 x2 x3 x4 x5 t d, ← term9 x0 x1 x2 x3 x4 x5 t d, ← term10 x0 x1 x2 x3 x4 x5 t d, ← term11 x0 x1 x2 x3 x4 x5 t d, ← term12 x0 x1 x2 x3 x4 x5 t d, ← term13 x0 x1 x2 x3 x4 x5 t d, ← term14 x0 x1 x2 x3 x4 x5 t d, ← term15 x0 x1 x2 x3 x4 x5 t d]
  have h0 : val_main_v29 (F := Ideal) (ix2 t d) = 0 := by pointwise [val_main_v29, val_main_cst_8]
  rw [← h0]
  rfl

theorem residual_apply (d : Fin 1024) : val_main_v273 (F := Ideal) x0 x1 x2 x3 x4 x5 (ix2 t d)
    = Spec.residual (tok x0 t) (fun e => val_main_v28 (F := Ideal) x0 x1 x2 (ix2 t e)) (fun e k h => x3 (ix3 e k h)) (fun e k h => x4 (ix3 e k h))
        (fun e h d => x5 (ix3 e h d)) d := by
  have h : val_main_v273 (F := Ideal) x0 x1 x2 x3 x4 x5 (ix2 t d)
      = Ideal.ofBits .f32 0x3FB504F3#32 * val_main_v270 (F := Ideal) x0 (ix2 t d) + val_main_v269 (F := Ideal) x0 x1 x2 x3 x4 x5 (ix2 t d) := by
    pointwise [val_main_v273, val_main_v272, val_main_v271, val_main_cst_9]
  rw [h, experts_apply]
  rfl

theorem mean_apply : val_main_v277 (F := Ideal) x0 x1 x2 x3 x4 x5 (ix2 t 0) = mean fun d => val_main_v273 (F := Ideal) x0 x1 x2 x3 x4 x5 (ix2 t d) := by
  pointwise [val_main_v277, val_main_v276, val_main_v275, val_main_v274, val_main_cst_10, val_main_cst_11, mean]

theorem spread_apply : val_main_v284 (F := Ideal) x0 x1 x2 x3 x4 x5 (ix2 t 0)
    = mean fun d => (val_main_v273 (F := Ideal) x0 x1 x2 x3 x4 x5 (ix2 t d) - val_main_v277 (F := Ideal) x0 x1 x2 x3 x4 x5 (ix2 t 0))
        * (val_main_v273 (F := Ideal) x0 x1 x2 x3 x4 x5 (ix2 t d) - val_main_v277 (F := Ideal) x0 x1 x2 x3 x4 x5 (ix2 t 0)) := by
  pointwise [val_main_v284, val_main_v283, val_main_v282, val_main_v281, val_main_v280, val_main_v279, val_main_v278, val_main_cst_12, val_main_cst_13, mean]

/-- The reference at token `t` is the layer of that token. -/
theorem result_apply (d : Fin 1024) : val_main_v297 (F := Ideal) x0 x1 x2 x3 x4 x5 x6 x7 (ix2 t d)
    = layer (tok x0 t) (fun k e => x1 (ix2 k e)) (fun e => x2 (ix1 e)) (fun e k h => x3 (ix3 e k h)) (fun e k h => x4 (ix3 e k h))
        (fun e h d => x5 (ix3 e h d)) (fun d => x6 (ix1 d)) (fun d => x7 (ix1 d)) d := by
  have h : val_main_v297 (F := Ideal) x0 x1 x2 x3 x4 x5 x6 x7 (ix2 t d)
      = (val_main_v273 (F := Ideal) x0 x1 x2 x3 x4 x5 (ix2 t d) - val_main_v277 (F := Ideal) x0 x1 x2 x3 x4 x5 (ix2 t 0))
          * Ideal.rsqrt (val_main_v284 (F := Ideal) x0 x1 x2 x3 x4 x5 (ix2 t 0) + Ideal.ofBits .f32 0x3727C5AC#32) * x6 (ix1 d) + x7 (ix1 d) := by
    pointwise [val_main_v297, val_main_v296, val_main_v295, val_main_v294, val_main_v293, val_main_v292, val_main_v291, val_main_v290, val_main_v289, val_main_v288, val_main_v287,
      val_main_v286, val_main_v285, val_main_cst_14]
  rw [h, spread_apply, mean_apply]
  simp only [residual_apply, gates_apply]
  rfl

end

end Cert.ReferenceExperts
-- ==== Proof.InprojBody.lean ====
module

public import proofs.«01_k».proof.Proof.Gen.Kernel2Ideal.Frame
public import proofs.«01_k».proof.Proof.Gen.Kernel2Ideal.Skeleton
public import Idealize.ShloMosaic.Lib.Pipeline.Value
public import Idealize.ShloMosaic.Lib.WritesUnit
public import Idealize.ShloMosaic.Lib.Pointwise
public import Mathlib.Tactic.IntervalCases

/-! The input projection's body, run at one grid point: what it leaves in each output block and in the scratch rows. -/

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tile of activations, loaded whole. -/
abbrev tile (x0 : Vec F S1x512x1024 .f32) : Vec F S1x512x1024 .f32 :=
  View.ld x0 (Rect.unit (s := S1x512x1024) ![0, 0, 0] S1x512x1024.size inb_S1x512x1024_S1x512x1024_0_0_0)

/-- A block of 512 columns of the weights. -/
abbrev cols (x1 : Vec F S1024x3072 .bf16) (c : ℕ) (h : ∀ a, (![0, c] : Fin 2 → ℕ) a + S1024x512.size a ≤ S1024x3072.size a) :
    Vec F S1024x512 .bf16 := View.ld x1 (Rect.unit (s := S1024x3072) ![0, c] S1024x512.size h)

/-- The tile's projection to the convolved columns, as the scratch holds it. -/
def proj (x0 : Vec F S1x512x1024 .f32) (x1 : Vec F S1024x3072 .bf16) (r : Fin 512) (n : ℕ) : Elt F .f32 :=
  if n < 512 then k0_pay6 (tile x0) (cols x1 0 inb_S1024x3072_S1024x512_0_0) (ix2 r ⟨n % 512, Nat.mod_lt _ (by decide)⟩)
  else if n < 1024 then
    k0_pay7 (tile x0) (cols x1 512 inb_S1024x3072_S1024x512_0_512) (ix2 r ⟨(n - 512) % 512, Nat.mod_lt _ (by decide)⟩)
  else k0_pay10 (tile x0) (cols x1 1024 inb_S1024x3072_S1024x512_0_1024) (ix2 r ⟨(n - 1024) % 128, Nat.mod_lt _ (by decide)⟩)

/-- The scratch with the tile's projection laid below its first eight rows. -/
def filled (g : Vec F S520x1152 .f32) (x0 : Vec F S1x512x1024 .f32) (x1 : Vec F S1024x3072 .bf16) : Vec F S520x1152 .f32 :=
  fun y => if (y 0).val < 8 then g y else proj x0 x1 ⟨((y 0).val - 8) % 512, Nat.mod_lt _ (by decide)⟩ (y 1).val

/-- The scratch with the three rows before the sequence's start written in. -/
def started (g : Vec F S520x1152 .f32) (x2 : Vec F S1x3x1152 .f32) : Vec F S520x1152 .f32 :=
  fun y => if 5 ≤ (y 0).val ∧ (y 0).val < 8 then
      k0_pay4 (View.ld x2 (Rect.unit (s := S1x3x1152) ![0, 0, 0] S1x3x1152.size inb_S1x3x1152_S1x3x1152_0_0_0))
        (ix2 ⟨((y 0).val - 5) % 3, Nat.mod_lt _ (by decide)⟩ (y 1))
    else g y

/-- The scratch the tile's convolution reads. -/
def opened (i : grid0.Coords) (g : Vec F S520x1152 .f32) (x2 : Vec F S1x3x1152 .f32) : Vec F S520x1152 .f32 :=
  if (i 1).val = 0 then started g x2 else g

/-- The decay columns' block. -/
def outZ (x0 : Vec F S1x512x1024 .f32) (x1 : Vec F S1024x3072 .bf16) : Vec F S1x512x384 .f32 :=
  View.canon [⟨Rect.unit (s := S1x512x384) ![0, 0, 0] S1x512x384.size inb_S1x512x384_S1x512x384_0_0_0,
    k0_pay9 (tile x0) (cols x1 1024 inb_S1024x3072_S1024x512_0_1024)⟩]

/-- The part of the body's weights after the convolved ones, the attention band's and the rest. -/
def outB (x0 : Vec F S1x512x1024 .f32) (x1 : Vec F S1024x3072 .bf16) : Vec F S1x512x1152 .bf16 :=
  View.canon [
    ⟨Rect.unit (s := S1x512x1152) ![0, 0, 1024] S1x512x128.size inb_S1x512x1152_S1x512x128_0_0_1024,
      k0_pay18 (k0_pay5 (tile x0)) (cols x1 2560 inb_S1024x3072_S1024x512_0_2560)⟩,
    ⟨Rect.unit (s := S1x512x1152) ![0, 0, 512] S1x512x512.size inb_S1x512x1152_S1x512x512_0_0_512,
      k0_pay15 (k0_pay5 (tile x0)) (cols x1 2048 inb_S1024x3072_S1024x512_0_2048)⟩,
    ⟨Rect.unit (s := S1x512x1152) ![0, 0, 0] S1x512x512.size inb_S1x512x1152_S1x512x512_0_0_0,
      k0_pay12 (k0_pay5 (tile x0)) (cols x1 1536 inb_S1024x3072_S1024x512_0_1536)⟩]

/-- The pooled columns' block. -/
def outC (x0 : Vec F S1x512x1024 .f32) (x1 : Vec F S1024x3072 .bf16) : Vec F S1x512x256 .f32 :=
  View.canon [⟨Rect.unit (s := S1x512x256) ![0, 0, 0] S1x512x256.size inb_S1x512x256_S1x512x256_0_0_0,
    k0_pay20 (k0_pay19 (k0_pay5 (tile x0)) (cols x1 2560 inb_S1024x3072_S1024x512_0_2560))⟩]

/-- The gate columns' block. -/
def outG (x0 : Vec F S1x512x1024 .f32) (x1 : Vec F S1024x3072 .bf16) : Vec F S1x512x128 .f32 :=
  View.canon [⟨Rect.unit (s := S1x512x128) ![0, 0, 0] S1x512x128.size inb_S1x512x128_S1x512x128_0_0_0,
    k0_pay21 (k0_pay17 (k0_pay5 (tile x0)) (cols x1 2560 inb_S1024x3072_S1024x512_0_2560))⟩]

/-- The keys and values kept for the next call. -/
def outKv (x0 : Vec F S1x512x1024 .f32) (x1 : Vec F S1024x3072 .bf16) : Vec F S1x512x768 .f32 :=
  View.canon [
    ⟨Rect.unit (s := S1x512x768) ![0, 0, 640] S1x512x128.size inb_S1x512x768_S1x512x128_0_0_640,
      k0_pay22 (k0_pay17 (k0_pay5 (tile x0)) (cols x1 2560 inb_S1024x3072_S1024x512_0_2560))⟩,
    ⟨Rect.unit (s := S1x512x768) ![0, 0, 128] S1x512x512.size inb_S1x512x768_S1x512x512_0_0_128,
      k0_pay16 (k0_pay5 (tile x0)) (cols x1 2048 inb_S1024x3072_S1024x512_0_2048)⟩,
    ⟨Rect.unit (s := S1x512x768) ![0, 0, 0] S1x512x128.size inb_S1x512x768_S1x512x128_0_0_0,
      k0_pay13 (k0_pay5 (tile x0)) (cols x1 1536 inb_S1024x3072_S1024x512_0_1536)⟩]

theorem tap_fits {r c : ℕ} (hr : r ≤ 392) (hc : c ≤ 768) : ∀ a, (![r, c] : Fin 2 → ℕ) a + S128x384.size a ≤ S520x1152.size a :=
  Fin.forall_fin_two.2 ⟨by show r + 128 ≤ 520; omega, by show c + 384 ≤ 1152; omega⟩

theorem weight_fits {r c : ℕ} (hr : r < 4) (hc : c ≤ 768) : ∀ a, (![r, c] : Fin 2 → ℕ) a + S1x384.size a ≤ S4x1152.size a :=
  Fin.forall_fin_two.2 ⟨by show r + 1 ≤ 4; omega, by show c + 384 ≤ 1152; omega⟩

/-- A group of 128 rows of the scratch, from row `r` and column `c`. -/
abbrev tap (s : Vec F S520x1152 .f32) (r c : ℕ) (hr : r ≤ 392) (hc : c ≤ 768) : Vec F S128x384 .f32 :=
  View.ld s (Rect.unit (s := S520x1152) ![r, c] S128x384.size (tap_fits hr hc))

/-- The convolution weights at distance `r`. -/
abbrev weight (x3 : Vec F S4x1152 .f32) (r c : ℕ) (hr : r < 4) (hc : c ≤ 768) : Vec F S1x384 .f32 :=
  View.ld x3 (Rect.unit (s := S4x1152) ![r, c] S1x384.size (weight_fits hr hc))

/-- The activated convolution of row group `g` at the columns from `c`. -/
def act (s : Vec F S520x1152 .f32) (x3 : Vec F S4x1152 .f32) (g c : ℕ) (hg : g < 4) (hc : c ≤ 768) : FVec F S128x384 .f32 :=
  k0_pay23 (tap s (5 + 128 * g) c (by omega) hc) (weight x3 0 c (by omega) hc) (tap s (6 + 128 * g) c (by omega) hc)
    (weight x3 1 c (by omega) hc) (tap s (7 + 128 * g) c (by omega) hc) (weight x3 2 c (by omega) hc)
    (tap s (8 + 128 * g) c (by omega) hc) (weight x3 3 c (by omega) hc)

/-- The mask of lanes of one head. -/
abbrev heads (x4 : Vec F S384x384 .bf16) : Vec F S384x384 .bf16 :=
  View.ld x4 (Rect.unit (s := S384x384) ![0, 0] S384x384.size inb_S384x384_S384x384_0_0)

/-- The lanes' squares. -/
def squares (a : FVec F S128x384 .f32) : FVec F S128x384 .bf16 := truncf .bf16 (mulf a a) bitsLt_bf16_f32

/-- Row group `g` of the queries, of the keys and of the values. -/
def groupQ (s : Vec F S520x1152 .f32) (x3 : Vec F S4x1152 .f32) (x4 : Vec F S384x384 .bf16) (g : ℕ) (hg : g < 4) : FVec F S1x128x384 .f32 :=
  k0_pay25 (act s x3 g 0 hg (by omega)) (squares (act s x3 g 0 hg (by omega))) (heads x4)
def groupK (s : Vec F S520x1152 .f32) (x3 : Vec F S4x1152 .f32) (x4 : Vec F S384x384 .bf16) (g : ℕ) (hg : g < 4) : FVec F S1x128x384 .f32 :=
  k0_pay28 (act s x3 g 384 hg (by omega)) (squares (act s x3 g 384 hg (by omega))) (heads x4)
def groupV (s : Vec F S520x1152 .f32) (x3 : Vec F S4x1152 .f32) (g : ℕ) (hg : g < 4) : FVec F S1x128x384 .f32 :=
  k0_pay30 (act s x3 g 768 hg (by omega))

/-- A block whose four groups of 128 rows are `p`'s. -/
def stacked (p : (g : ℕ) → g < 4 → FVec F S1x128x384 .f32) : Vec F S1x512x384 .f32 :=
  View.canon [
    ⟨Rect.unit (s := S1x512x384) ![0, 384, 0] S1x128x384.size inb_S1x512x384_S1x128x384_0_384_0, p 3 (by omega)⟩,
    ⟨Rect.unit (s := S1x512x384) ![0, 256, 0] S1x128x384.size inb_S1x512x384_S1x128x384_0_256_0, p 2 (by omega)⟩,
    ⟨Rect.unit (s := S1x512x384) ![0, 128, 0] S1x128x384.size inb_S1x512x384_S1x128x384_0_128_0, p 1 (by omega)⟩,
    ⟨Rect.unit (s := S1x512x384) ![0, 0, 0] S1x128x384.size inb_S1x512x384_S1x128x384_0_0_0, p 0 (by omega)⟩]

/-- The last three rows of the scratch. -/
abbrev last (s : Vec F S520x1152 .f32) : Vec F S3x1152 .f32 :=
  View.ld s (Rect.unit (s := S520x1152) ![517, 0] S3x1152.size inb_S520x1152_S3x1152_517_0)

/-- The convolution's rows kept for the next call. -/
def outCs (s : Vec F S520x1152 .f32) : Vec F S1x3x1152 .f32 :=
  View.canon [⟨Rect.unit (s := S1x3x1152) ![0, 0, 0] S1x3x1152.size inb_S1x3x1152_S1x3x1152_0_0_0, k0_pay2 (last s)⟩]

/-- The scratch as the next tile finds it. -/
def closed (s : Vec F S520x1152 .f32) : Vec F S520x1152 .f32 :=
  fun y => if 5 ≤ (y 0).val ∧ (y 0).val < 8 then k0_pay3 (last s) (ix2 ⟨((y 0).val - 5) % 3, Nat.mod_lt _ (by decide)⟩ (y 1)) else s y

theorem branch_taken (i : grid0.Coords) (h : (i 1).val = 0) :
    Scalar.cmpi .ne (Scalar.extui (Scalar.cmpi .eq (BitVec.ofNat 32 (i 1).val) 0#32) : BitVec 32) 0#32 = 1#1 := by
  rw [h]; decide

theorem branch_not_taken (i : grid0.Coords) (h : (i 1).val ≠ 0) :
    ¬ Scalar.cmpi .ne (Scalar.extui (Scalar.cmpi .eq (BitVec.ofNat 32 (i 1).val) 0#32) : BitVec 32) 0#32 = 1#1 := by
  have hlt : (i 1).val < 8 := (i 1).isLt
  revert h hlt
  generalize (i 1).val = n
  intro h hlt
  interval_cases n <;> revert h <;> decide

/-- Three stores below the history rows lay the tile's projection there, whatever the scratch held. -/
theorem read_filled {κ : Kind} {sp : Space} (v : View sig κ sp S520x1152 .f32) (f : v.ty.Contents (Elt F)) (x0 : Vec F S1x512x1024 .f32) (x1 : Vec F S1024x3072 .bf16)
    (L : List (View.Piece (Elt F) S520x1152 .f32)) (g : Vec F S520x1152 .f32)
    (hL : ∀ y : S520x1152.Idx, (y 0).val < 8 → v.read (Elt F) (v.writes (Elt F) f L) y = g y) :
    v.read (Elt F) (v.writes (Elt F) f (
      ⟨Rect.unit (s := S520x1152) ![8, 1024] S512x128.size inb_S520x1152_S512x128_8_1024, k0_pay10 (tile x0) (cols x1 1024 inb_S1024x3072_S1024x512_0_1024)⟩
      :: ⟨Rect.unit (s := S520x1152) ![8, 512] S512x512.size inb_S520x1152_S512x512_8_512, k0_pay7 (tile x0) (cols x1 512 inb_S1024x3072_S1024x512_0_512)⟩
      :: ⟨Rect.unit (s := S520x1152) ![8, 0] S512x512.size inb_S520x1152_S512x512_8_0, k0_pay6 (tile x0) (cols x1 0 inb_S1024x3072_S1024x512_0_0)⟩
      :: L)) = filled g x0 x1 := by
  funext y
  have h0 : (y 0).val < 520 := (y 0).isLt
  have h1 : (y 1).val < 1152 := (y 1).isLt
  unfold filled
  by_cases hr : (y 0).val < 8
  · rw [if_pos hr, View.read_writes_cons_unit_of_not_mem _ _ _ _ _ y rfl 0 (.inl hr),
      View.read_writes_cons_unit_of_not_mem _ _ _ _ _ y rfl 0 (.inl hr),
      View.read_writes_cons_unit_of_not_mem _ _ _ _ _ y rfl 0 (.inl hr)]
    exact hL y hr
  · rw [if_neg hr]
    unfold proj
    by_cases ha : (y 1).val < 512
    · rw [if_pos ha, View.read_writes_cons_unit_of_not_mem _ _ _ _ _ y rfl 1 (.inl (by show (y 1).val < 1024; omega)),
        View.read_writes_cons_unit_of_not_mem _ _ _ _ _ y rfl 1 (.inl ha)]
      exact View.read_writes_cons_unit_of_mem _ _ _ _ _ y (ix2 _ _) rfl (Fin.forall_fin_two.2
        ⟨by show (y 0).val = 8 + ((y 0).val - 8) % 512; omega, by show (y 1).val = 0 + (y 1).val % 512; omega⟩)
    · rw [if_neg ha]
      by_cases hb : (y 1).val < 1024
      · rw [if_pos hb, View.read_writes_cons_unit_of_not_mem _ _ _ _ _ y rfl 1 (.inl hb)]
        exact View.read_writes_cons_unit_of_mem _ _ _ _ _ y (ix2 _ _) rfl (Fin.forall_fin_two.2
          ⟨by show (y 0).val = 8 + ((y 0).val - 8) % 512; omega, by show (y 1).val = 512 + ((y 1).val - 512) % 512; omega⟩)
      · rw [if_neg hb]
        exact View.read_writes_cons_unit_of_mem _ _ _ _ _ y (ix2 _ _) rfl (Fin.forall_fin_two.2
          ⟨by show (y 0).val = 8 + ((y 0).val - 8) % 512; omega, by show (y 1).val = 1024 + ((y 1).val - 1024) % 128; omega⟩)

theorem read_started {κ : Kind} {sp : Space} (v : View sig κ sp S520x1152 .f32) (f : v.ty.Contents (Elt F)) (x2 : Vec F S1x3x1152 .f32) :
    v.read (Elt F) (v.writes (Elt F) f [⟨Rect.unit (s := S520x1152) ![5, 0] S3x1152.size inb_S520x1152_S3x1152_5_0,
      k0_pay4 (View.ld x2 (Rect.unit (s := S1x3x1152) ![0, 0, 0] S1x3x1152.size inb_S1x3x1152_S1x3x1152_0_0_0))⟩])
      = started (v.read (Elt F) f) x2 := by
  funext y
  have h0 : (y 0).val < 520 := (y 0).isLt
  have h1 : (y 1).val < 1152 := (y 1).isLt
  unfold started
  by_cases hr : 5 ≤ (y 0).val ∧ (y 0).val < 8
  · rw [if_pos hr]
    exact View.read_writes_cons_unit_of_mem _ _ _ _ _ y (ix2 _ _) rfl (Fin.forall_fin_two.2
      ⟨by show (y 0).val = 5 + ((y 0).val - 5) % 3; omega, by show (y 1).val = 0 + (y 1).val; omega⟩)
  · rw [if_neg hr, View.read_writes_cons_unit_of_not_mem _ _ _ _ _ y rfl 0 (by
      show (y 0).val < 5 ∨ 5 + 3 ≤ (y 0).val; omega)]
    rfl

set_option maxHeartbeats 4000000 in
/-- The first part of the body: the history rows at a sequence's start, then the projection of the convolved columns. -/
theorem part1_run (c : Dev nD) (E : Set ℕ) (i : grid0.Coords) (arg2 : Memref sig .tc .vmem S1x512x1024 .f32) (harg2 : arg2.IsWhole) (arg3 : Memref sig .tc .vmem S1024x3072 .bf16) (harg3 : arg3.IsWhole) (arg4 : Memref sig .tc .vmem S1x3x1152 .f32) (harg4 : arg4.IsWhole) (arg5 : Memref sig .tc .vmem S4x1152 .f32) (harg5 : arg5.IsWhole) (arg6 : Memref sig .tc .vmem S384x384 .bf16) (harg6 : arg6.IsWhole) (arg7 : Memref sig .tc .vmem S1x512x384 .f32) (harg7 : arg7.IsWhole) (arg8 : Memref sig .tc .vmem S1x512x384 .f32) (harg8 : arg8.IsWhole) (arg9 : Memref sig .tc .vmem S1x512x384 .f32) (harg9 : arg9.IsWhole) (arg10 : Memref sig .tc .vmem S1x512x384 .f32) (harg10 : arg10.IsWhole) (arg11 : Memref sig .tc .vmem S1x512x1152 .bf16) (harg11 : arg11.IsWhole) (arg12 : Memref sig .tc .vmem S1x512x256 .f32) (harg12 : arg12.IsWhole) (arg13 : Memref sig .tc .vmem S1x512x128 .f32) (harg13 : arg13.IsWhole) (arg14 : Memref sig .tc .vmem S1x512x768 .f32) (harg14 : arg14.IsWhole) (arg15 : Memref sig .tc .vmem S1x3x1152 .f32) (harg15 : arg15.IsWhole) (arg16 : Memref sig .tc .vmem S520x1152 .f32) (harg16 : arg16.IsWhole)
    (x0 : Vec F S1x512x1024 .f32) (x1 : Vec F S1024x3072 .bf16) (x2 : Vec F S1x3x1152 .f32) (g : Vec F S520x1152 .f32)
    (K : FVec F S512x1024 .bf16 → sProp 𝕄) :
    iprop(owns (c : Thread nD τ) arg2 fullShare x0 ∗ owns (c : Thread nD τ) arg3 fullShare x1 ∗ owns (c : Thread nD τ) arg4 fullShare x2 ∗ (∃ d, owns (c : Thread nD τ) arg10 fullShare d) ∗ owns (c : Thread nD τ) arg16 fullShare g
        ∗ (iprop(owns (c : Thread nD τ) arg2 fullShare x0 ∗ owns (c : Thread nD τ) arg3 fullShare x1 ∗ owns (c : Thread nD τ) arg4 fullShare x2 ∗ owns (c : Thread nD τ) arg10 fullShare (outZ x0 x1) ∗ owns (c : Thread nD τ) arg16 fullShare (filled (opened i g x2) x0 x1)) -∗ K (k0_pay5 (tile x0))))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  rw [show tile (View.read (Elt F) arg2.view f0) = View.readAt (Elt F) arg2.view (Rect.unit (s := S1x512x1024) ![0, 0, 0] S1x512x1024.size inb_S1x512x1024_S1x512x1024_0_0_0).toLoadRect f0 from rfl]
  by_cases hi : (i 1).val = 0
  · have hc := branch_taken i hi
    sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (fun y => View.cover_of_tiled [⟨_, _⟩] S1x512x384.size (by rfl) y)
    iexists _; isplitr
    swap; · iexact H4
    ipureintro
    unfold opened
    rw [if_pos hi]
    exact read_filled _ _ _ _ _ _ fun y _ => congrFun (read_started _ _ _) y
  · have hc := branch_not_taken i hi
    sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (fun y => View.cover_of_tiled [⟨_, _⟩] S1x512x384.size (by rfl) y)
    iexists _; isplitr
    swap; · iexact H4
    ipureintro
    unfold opened
    rw [if_neg hi]
    exact read_filled _ _ _ _ [] _ fun y _ => rfl

theorem band_covered (p q : Vec F S1x512x512 .bf16) (r : Vec F S1x512x128 .bf16) (y : S1x512x1152.Idx) :
    ∃ pc ∈ ([⟨Rect.unit (s := S1x512x1152) ![0, 0, 1024] S1x512x128.size inb_S1x512x1152_S1x512x128_0_0_1024, r⟩,
      ⟨Rect.unit (s := S1x512x1152) ![0, 0, 512] S1x512x512.size inb_S1x512x1152_S1x512x512_0_0_512, q⟩,
      ⟨Rect.unit (s := S1x512x1152) ![0, 0, 0] S1x512x512.size inb_S1x512x1152_S1x512x512_0_0_0, p⟩] : List (View.Piece (Elt F) S1x512x1152 .bf16)),
      y ∈ pc.1.set := by
  have h0 : (y 0).val < 1 := (y 0).isLt
  have h1 : (y 1).val < 512 := (y 1).isLt
  have h2 : (y 2).val < 1152 := (y 2).isLt
  by_cases ha : (y 2).val < 512
  · refine ⟨_, List.mem_cons_of_mem _ (List.mem_cons_of_mem _ List.mem_cons_self), ?_⟩
    rw [Rect.mem_set_unit]
    intro a
    match a with
    | ⟨0, _⟩ => exact ⟨Nat.zero_le _, by show (y 0).val < 0 + 1; omega⟩
    | ⟨1, _⟩ => exact ⟨Nat.zero_le _, by show (y 1).val < 0 + 512; omega⟩
    | ⟨2, _⟩ => exact ⟨Nat.zero_le _, by show (y 2).val < 0 + 512; omega⟩
  · by_cases hb : (y 2).val < 1024
    · refine ⟨_, List.mem_cons_of_mem _ List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨by show 512 ≤ (y 2).val; omega, by show (y 2).val < 512 + 512; omega⟩
    · refine ⟨_, List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨by show 1024 ≤ (y 2).val; omega, by show (y 2).val < 1024 + 128; omega⟩

theorem kept_covered (p : Vec F S1x512x128 .f32) (q : Vec F S1x512x512 .f32) (r : Vec F S1x512x128 .f32) (y : S1x512x768.Idx) :
    ∃ pc ∈ ([⟨Rect.unit (s := S1x512x768) ![0, 0, 640] S1x512x128.size inb_S1x512x768_S1x512x128_0_0_640, r⟩,
      ⟨Rect.unit (s := S1x512x768) ![0, 0, 128] S1x512x512.size inb_S1x512x768_S1x512x512_0_0_128, q⟩,
      ⟨Rect.unit (s := S1x512x768) ![0, 0, 0] S1x512x128.size inb_S1x512x768_S1x512x128_0_0_0, p⟩] : List (View.Piece (Elt F) S1x512x768 .f32)),
      y ∈ pc.1.set := by
  have h0 : (y 0).val < 1 := (y 0).isLt
  have h1 : (y 1).val < 512 := (y 1).isLt
  have h2 : (y 2).val < 768 := (y 2).isLt
  by_cases ha : (y 2).val < 128
  · refine ⟨_, List.mem_cons_of_mem _ (List.mem_cons_of_mem _ List.mem_cons_self), ?_⟩
    rw [Rect.mem_set_unit]
    intro a
    match a with
    | ⟨0, _⟩ => exact ⟨Nat.zero_le _, by show (y 0).val < 0 + 1; omega⟩
    | ⟨1, _⟩ => exact ⟨Nat.zero_le _, by show (y 1).val < 0 + 512; omega⟩
    | ⟨2, _⟩ => exact ⟨Nat.zero_le _, by show (y 2).val < 0 + 128; omega⟩
  · by_cases hb : (y 2).val < 640
    · refine ⟨_, List.mem_cons_of_mem _ List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨by show 128 ≤ (y 2).val; omega, by show (y 2).val < 128 + 512; omega⟩
    · refine ⟨_, List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨by show 640 ≤ (y 2).val; omega, by show (y 2).val < 640 + 128; omega⟩

theorem groups_covered (p q r t : Vec F S1x128x384 .f32) (y : S1x512x384.Idx) :
    ∃ pc ∈ ([⟨Rect.unit (s := S1x512x384) ![0, 384, 0] S1x128x384.size inb_S1x512x384_S1x128x384_0_384_0, p⟩,
      ⟨Rect.unit (s := S1x512x384) ![0, 256, 0] S1x128x384.size inb_S1x512x384_S1x128x384_0_256_0, q⟩,
      ⟨Rect.unit (s := S1x512x384) ![0, 128, 0] S1x128x384.size inb_S1x512x384_S1x128x384_0_128_0, r⟩,
      ⟨Rect.unit (s := S1x512x384) ![0, 0, 0] S1x128x384.size inb_S1x512x384_S1x128x384_0_0_0, t⟩] : List (View.Piece (Elt F) S1x512x384 .f32)),
      y ∈ pc.1.set :=
  View.cover_of_tiled [⟨Rect.unit (s := S1x512x384) ![0, 384, 0] S1x128x384.size inb_S1x512x384_S1x128x384_0_384_0, p⟩,
    ⟨Rect.unit (s := S1x512x384) ![0, 256, 0] S1x128x384.size inb_S1x512x384_S1x128x384_0_256_0, q⟩,
    ⟨Rect.unit (s := S1x512x384) ![0, 128, 0] S1x128x384.size inb_S1x512x384_S1x128x384_0_128_0, r⟩,
    ⟨Rect.unit (s := S1x512x384) ![0, 0, 0] S1x128x384.size inb_S1x512x384_S1x128x384_0_0_0, t⟩] S1x128x384.size (by rfl) y

theorem read_closed {κ : Kind} {sp : Space} (v : View sig κ sp S520x1152 .f32) (f : v.ty.Contents (Elt F)) :
    v.read (Elt F) (v.writes (Elt F) f [⟨Rect.unit (s := S520x1152) ![5, 0] S3x1152.size inb_S520x1152_S3x1152_5_0,
      k0_pay3 (last (v.read (Elt F) f))⟩]) = closed (v.read (Elt F) f) := by
  funext y
  have h0 : (y 0).val < 520 := (y 0).isLt
  have h1 : (y 1).val < 1152 := (y 1).isLt
  unfold closed
  by_cases hr : 5 ≤ (y 0).val ∧ (y 0).val < 8
  · rw [if_pos hr]
    exact View.read_writes_cons_unit_of_mem _ _ _ _ _ y (ix2 _ _) rfl (Fin.forall_fin_two.2
      ⟨by show (y 0).val = 5 + ((y 0).val - 5) % 3; omega, by show (y 1).val = 0 + (y 1).val; omega⟩)
  · rw [if_neg hr, View.read_writes_cons_unit_of_not_mem _ _ _ _ _ y rfl 0 (by
      show (y 0).val < 5 ∨ 5 + 3 ≤ (y 0).val; omega)]
    rfl

set_option maxHeartbeats 8000000 in
/-- The body at one grid point: every output block and the scratch it leaves, of the input blocks and the scratch it finds. -/
theorem body_run (c : Dev nD) (E : Set ℕ) (i : grid0.Coords) (arg2 : Memref sig .tc .vmem S1x512x1024 .f32) (harg2 : arg2.IsWhole) (arg3 : Memref sig .tc .vmem S1024x3072 .bf16) (harg3 : arg3.IsWhole) (arg4 : Memref sig .tc .vmem S1x3x1152 .f32) (harg4 : arg4.IsWhole) (arg5 : Memref sig .tc .vmem S4x1152 .f32) (harg5 : arg5.IsWhole) (arg6 : Memref sig .tc .vmem S384x384 .bf16) (harg6 : arg6.IsWhole) (arg7 : Memref sig .tc .vmem S1x512x384 .f32) (harg7 : arg7.IsWhole) (arg8 : Memref sig .tc .vmem S1x512x384 .f32) (harg8 : arg8.IsWhole) (arg9 : Memref sig .tc .vmem S1x512x384 .f32) (harg9 : arg9.IsWhole) (arg10 : Memref sig .tc .vmem S1x512x384 .f32) (harg10 : arg10.IsWhole) (arg11 : Memref sig .tc .vmem S1x512x1152 .bf16) (harg11 : arg11.IsWhole) (arg12 : Memref sig .tc .vmem S1x512x256 .f32) (harg12 : arg12.IsWhole) (arg13 : Memref sig .tc .vmem S1x512x128 .f32) (harg13 : arg13.IsWhole) (arg14 : Memref sig .tc .vmem S1x512x768 .f32) (harg14 : arg14.IsWhole) (arg15 : Memref sig .tc .vmem S1x3x1152 .f32) (harg15 : arg15.IsWhole) (arg16 : Memref sig .tc .vmem S520x1152 .f32) (harg16 : arg16.IsWhole)
    (x0 : Vec F S1x512x1024 .f32) (x1 : Vec F S1024x3072 .bf16) (x2 : Vec F S1x3x1152 .f32) (x3 : Vec F S4x1152 .f32) (x4 : Vec F S384x384 .bf16)
    (g : Vec F S520x1152 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stacked (groupQ (filled (opened i g x2) x0 x1) x3 x4)) ∗ owns (c : Thread nD τ) arg8 fullShare (stacked (groupK (filled (opened i g x2) x0 x1) x3 x4)) ∗ owns (c : Thread nD τ) arg9 fullShare (stacked (groupV (filled (opened i g x2) x0 x1) x3)) ∗ owns (c : Thread nD τ) arg10 fullShare (outZ x0 x1) ∗ owns (c : Thread nD τ) arg11 fullShare (outB x0 x1) ∗ owns (c : Thread nD τ) arg12 fullShare (outC x0 x1) ∗ owns (c : Thread nD τ) arg13 fullShare (outG x0 x1) ∗ owns (c : Thread nD τ) arg14 fullShare (outKv x0 x1) ∗ owns (c : Thread nD τ) arg15 fullShare (outCs (filled (opened i g x2) x0 x1)) ∗ owns (c : Thread nD τ) arg16 fullShare (closed (filled (opened i g x2) x0 x1))) -∗ K ⟨⟩))
      ⊢ wp frame (wpE (defs₀ (F := F)) Variants.none c none) E (cc0_inproj_seq i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_inproj_seq_eq_skeleton]; unfold cc0_inproj_seq_skel
  rw [wp_bind_eq]
  iintro ⟨H2, H3, H4, H5, H6, H7, H8, H9, H10, H11, H12, H13, H14, H15, H16, Hk⟩
  iapply (part1_run c E i _ _ _ _ _ _ _ _ _ _ _ _ _ _ _ _ _ _ _ _ _ _ _ _ _ _ _ _ _ _ x0 x1 x2 g _)
  isplitl [H2]; · iexact H2
  isplitl [H3]; · iexact H3
  isplitl [H4]; · iexact H4
  isplitl [H10]; · iexact H10
  isplitl [H16]; · iexact H16
  iintro ⟨H2, H3, H4, H10, H16⟩
  generalize hs : filled (opened i g x2) x0 x1 = s
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H10 with ⟨%f10, %hf10, H10⟩
  icases H16 with ⟨%f16, %hf16, H16⟩
  icases H7 with ⟨%d7, %f7, %hf7, H7⟩
  icases H8 with ⟨%d8, %f8, %hf8, H8⟩
  icases H9 with ⟨%d9, %f9, %hf9, H9⟩
  icases H11 with ⟨%d11, %f11, %hf11, H11⟩
  icases H12 with ⟨%d12, %f12, %hf12, H12⟩
  icases H13 with ⟨%d13, %f13, %hf13, H13⟩
  icases H14 with ⟨%d14, %f14, %hf14, H14⟩
  icases H15 with ⟨%d15, %f15, %hf15, H15⟩
  clear hs
  subst hf2 hf3 hf4 hf5 hf6 hf16
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (groups_covered _ _ _ _)).trans ?_
    rfl
  isplitl [H8]
  · iexists _; isplitr
    swap; · iexact H8
    ipureintro
    refine (View.read_writes_eq_canon _ _ _ (groups_covered _ _ _ _)).trans ?_
    rfl
  isplitl [H9]
  · iexists _; isplitr
    swap; · iexact H9
    ipureintro
    refine (View.read_writes_eq_canon _ _ _ (groups_covered _ _ _ _)).trans ?_
    rfl
  isplitl [H10]
  · iexists f10; isplitr; · ipureintro; exact hf10
    iexact H10
  isplitl [H11]
  · iexists _; isplitr
    swap; · iexact H11
    ipureintro
    refine (View.read_writes_eq_canon _ _ _ (band_covered _ _ _)).trans ?_
    rfl
  isplitl [H12]
  · iexists _; isplitr
    swap; · iexact H12
    ipureintro
    refine (View.read_writes_eq_canon _ _ _ (fun y => View.cover_of_tiled _ S1x512x256.size (by rfl) y)).trans ?_
    rfl
  isplitl [H13]
  · iexists _; isplitr
    swap; · iexact H13
    ipureintro
    refine (View.read_writes_eq_canon _ _ _ (fun y => View.cover_of_tiled _ S1x512x128.size (by rfl) y)).trans ?_
    rfl
  isplitl [H14]
  · iexists _; isplitr
    swap; · iexact H14
    ipureintro
    refine (View.read_writes_eq_canon _ _ _ (kept_covered _ _ _)).trans ?_
    rfl
  isplitl [H15]
  · iexists _; isplitr
    swap; · iexact H15
    ipureintro
    refine (View.read_writes_eq_canon _ _ _ (fun y => View.cover_of_tiled _ S1x3x1152.size (by rfl) y)).trans ?_
    rfl
  iexists _; isplitr
  swap; · iexact H16
  ipureintro
  exact read_closed _ _

end Cert.Inproj

end
-- ==== Proof.InprojRun.lean ====
module

public import proofs.«01_k».proof.Proof.InprojBody

/-! The input projection's run over the grid: sixteen sequences of eight tiles, each tile's convolution reading the last
three rows the tile before it left in the scratch. -/

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Only the scratch's rows from the sixth on are read -/

theorem tap_congr {s s' : Vec F S520x1152 .f32} (h : ∀ y, 5 ≤ (y 0).val → s y = s' y) (r c : ℕ) (h5 : 5 ≤ r) (hr : r ≤ 392) (hc : c ≤ 768) :
    tap s r c hr hc = tap s' r c hr hc :=
  funext fun x => h _ (by show 5 ≤ r + 1 * (x 0).val; omega)

theorem last_congr {s s' : Vec F S520x1152 .f32} (h : ∀ y, 8 ≤ (y 0).val → s y = s' y) : last s = last s' :=
  funext fun x => h _ (by show 8 ≤ 517 + 1 * (x 0).val; omega)

theorem act_congr {s s' : Vec F S520x1152 .f32} (h : ∀ y, 5 ≤ (y 0).val → s y = s' y) (x3 : Vec F S4x1152 .f32) (g c : ℕ) (hg : g < 4) (hc : c ≤ 768) :
    act s x3 g c hg hc = act s' x3 g c hg hc := by
  unfold act
  rw [tap_congr h (5 + 128 * g) c (by omega), tap_congr h (6 + 128 * g) c (by omega), tap_congr h (7 + 128 * g) c (by omega),
    tap_congr h (8 + 128 * g) c (by omega)]

theorem groupQ_congr {s s' : Vec F S520x1152 .f32} (h : ∀ y, 5 ≤ (y 0).val → s y = s' y) (x3 : Vec F S4x1152 .f32) (x4 : Vec F S384x384 .bf16) :
    groupQ s x3 x4 = groupQ s' x3 x4 := by
  funext g hg; unfold groupQ; rw [act_congr h]

theorem groupK_congr {s s' : Vec F S520x1152 .f32} (h : ∀ y, 5 ≤ (y 0).val → s y = s' y) (x3 : Vec F S4x1152 .f32) (x4 : Vec F S384x384 .bf16) :
    groupK s x3 x4 = groupK s' x3 x4 := by
  funext g hg; unfold groupK; rw [act_congr h]

theorem groupV_congr {s s' : Vec F S520x1152 .f32} (h : ∀ y, 5 ≤ (y 0).val → s y = s' y) (x3 : Vec F S4x1152 .f32) :
    groupV s x3 = groupV s' x3 := by
  funext g hg; unfold groupV; rw [act_congr h]

theorem outCs_congr {s s' : Vec F S520x1152 .f32} (h : ∀ y, 5 ≤ (y 0).val → s y = s' y) : outCs s = outCs s' := by
  unfold outCs; rw [last_congr fun y hy => h y (by omega)]

/-- What two tiles of equal inputs leave in the history rows is the same. -/
theorem closed_filled (g g' : Vec F S520x1152 .f32) (x0 : Vec F S1x512x1024 .f32) (x1 : Vec F S1024x3072 .bf16) (y : S520x1152.Idx)
    (h5 : 5 ≤ (y 0).val) (h8 : (y 0).val < 8) : closed (filled g x0 x1) y = closed (filled g' x0 x1) y := by
  unfold closed
  rw [if_pos ⟨h5, h8⟩, if_pos ⟨h5, h8⟩, last_congr (s := filled g x0 x1) (s' := filled g' x0 x1) fun y hy => by
    unfold filled; rw [if_neg (by omega), if_neg (by omega)]]

variable (m : (ℓ : Loc nD τ sig) → Buf (Elt F) ℓ) (ρ : Dev nD → PrngReg)

/-! ## The scratch, point by point -/

/-- The grid point before. -/
def prev (t : Fin cfg0.N) : Fin cfg0.N := ⟨t.val - 1, by have := t.isLt; omega⟩

/-- The scratch the tile at `t` finds, at its history rows. -/
def left (c : Dev nD) (t : Fin cfg0.N) : Vec F S520x1152 .f32 :=
  closed (filled (fun _ => proj (iblk m c 0 t) (iblk m c 1 t) 0 0) (iblk m c 0 t) (iblk m c 1 t))

/-- The scratch the convolution of the tile at `t` reads. -/
def scratch (c : Dev nD) (t : Fin cfg0.N) : Vec F S520x1152 .f32 :=
  filled (opened (grid0.coords t) (left m c (prev t)) (iblk m c 2 t)) (iblk m c 0 t) (iblk m c 1 t)

theorem first_point : ∀ t : Fin cfg0.N, t.val = 0 → ((grid0.coords t) 1).val = 0 :=
  (by decide +kernel : ∀ t : Fin grid0.N, t.val = 0 → ((grid0.coords t) 1).val = 0)

/-- A scratch that agrees with the tile before at the history rows gives the convolution the rows it reads. -/
theorem filled_opened (c : Dev nD) (t : Fin cfg0.N) (g : Vec F S520x1152 .f32)
    (hg : t.val ≠ 0 → ∀ y : S520x1152.Idx, 5 ≤ (y 0).val → (y 0).val < 8 → g y = left m c (prev t) y) (y : S520x1152.Idx) (hy : 5 ≤ (y 0).val) :
    filled (opened (grid0.coords t) g (iblk m c 2 t)) (iblk m c 0 t) (iblk m c 1 t) y = scratch m c t y := by
  unfold scratch filled
  by_cases h8 : (y 0).val < 8
  · rw [if_pos h8, if_pos h8]
    unfold opened
    by_cases hi : ((grid0.coords t) 1).val = 0
    · rw [if_pos hi, if_pos hi]
      unfold started
      rw [if_pos ⟨hy, h8⟩, if_pos ⟨hy, h8⟩]
    · rw [if_neg hi, if_neg hi]
      exact hg (fun h => hi (first_point t h)) y hy h8
  · rw [if_neg h8, if_neg h8]

/-- The invariant before point `n`: the scratch holds the tile before's history rows, the generator's register anything. -/
def carried (c : Dev nD) (n : ℕ) (h : n ≤ cfg0.N) : sProp 𝕄 :=
  iprop((∃ g : Vec F S520x1152 .f32, ⌜∀ hn : n ≠ 0, ∀ y : S520x1152.Idx, 5 ≤ (y 0).val → (y 0).val < 8 → g y = left m c ⟨n - 1, by omega⟩ y⌝
      ∗ owns (c : Thread nD τ) (Memref.whole cc0_scratch0) fullShare g) ∗ ∃ r, prngReg c r)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => stacked (groupQ (scratch m c t) (iblk m c 3 t) (iblk m c 4 t))
    | ⟨6, _⟩ => stacked (groupK (scratch m c t) (iblk m c 3 t) (iblk m c 4 t))
    | ⟨7, _⟩ => stacked (groupV (scratch m c t) (iblk m c 3 t))
    | ⟨8, _⟩ => outZ (iblk m c 0 t) (iblk m c 1 t)
    | ⟨9, _⟩ => outB (iblk m c 0 t) (iblk m c 1 t)
    | ⟨10, _⟩ => outC (iblk m c 0 t) (iblk m c 1 t)
    | ⟨11, _⟩ => outG (iblk m c 0 t) (iblk m c 1 t)
    | ⟨12, _⟩ => outKv (iblk m c 0 t) (iblk m c 1 t)
    | ⟨13, _⟩ => outCs (scratch m c t)
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = stacked (groupQ (scratch m c t) (iblk m c 3 t) (iblk m c 4 t)) := by dsimp only [dats]
theorem after0_6 (c : Dev nD) (t : Fin cfg0.N) : (dats m 0 c).after 6 t = stacked (groupK (scratch m c t) (iblk m c 3 t) (iblk m c 4 t)) := by dsimp only [dats]
theorem after0_7 (c : Dev nD) (t : Fin cfg0.N) : (dats m 0 c).after 7 t = stacked (groupV (scratch m c t) (iblk m c 3 t)) := by dsimp only [dats]
theorem after0_8 (c : Dev nD) (t : Fin cfg0.N) : (dats m 0 c).after 8 t = outZ (iblk m c 0 t) (iblk m c 1 t) := by dsimp only [dats]
theorem after0_9 (c : Dev nD) (t : Fin cfg0.N) : (dats m 0 c).after 9 t = outB (iblk m c 0 t) (iblk m c 1 t) := by dsimp only [dats]
theorem after0_10 (c : Dev nD) (t : Fin cfg0.N) : (dats m 0 c).after 10 t = outC (iblk m c 0 t) (iblk m c 1 t) := by dsimp only [dats]
theorem after0_11 (c : Dev nD) (t : Fin cfg0.N) : (dats m 0 c).after 11 t = outG (iblk m c 0 t) (iblk m c 1 t) := by dsimp only [dats]
theorem after0_12 (c : Dev nD) (t : Fin cfg0.N) : (dats m 0 c).after 12 t = outKv (iblk m c 0 t) (iblk m c 1 t) := by dsimp only [dats]
theorem after0_13 (c : Dev nD) (t : Fin cfg0.N) : (dats m 0 c).after 13 t = outCs (scratch m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = carried m c (t.val + 1) t.isLt from rfl,
    show (dats m 0 c).Φ t.castSucc = carried m c t.val (Nat.le_of_lt t.isLt) from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold carried
  iintro ⟨⟨⟨%g, %hg, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hsame := filled_opened m c t g hg
  rw [← groupQ_congr hsame, ← groupK_congr hsame, ← groupV_congr hsame, ← outCs_congr hsame]
  iapply (body_run c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) g _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [Hs]; · iexact Hs
  iintro ⟨H0, H1, H2, H3, H4, H5, H6, H7, H8, H9, H10, H11, H12, H13, Hs⟩
  isplitl [Hs Hr]
  · isplitl [Hs]
    · iexists _; isplitr
      swap; · iexact Hs
      ipureintro
      intro _ y h5 h8
      exact closed_filled _ _ _ _ y h5 h8
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_first (c : Dev nD) : Pipeline.ΦA spec0 c ⊢ (dats (F := F) m 0 c).Φ 0 := by
  show _ ⊢ carried m c 0 (Nat.zero_le _)
  unfold Pipeline.ΦA carried
  rw [scopedRest0_eq]
  iintro ⟨⟨%f, H⟩, Hr⟩
  isplitl [H]
  · iexists f; isplitr
    · ipureintro; intro h; exact absurd rfl h
    rw [owns_whole]; iexact H
  iexact Hr

theorem carried_last (c : Dev nD) : (dats (F := F) m 0 c).Φ (Fin.last cfg0.N) ⊢ Pipeline.ΦA spec0 c := by
  show carried m c cfg0.N (Nat.le_refl _) ⊢ _
  unfold Pipeline.ΦA carried
  rw [scopedRest0_eq]
  simp only [owns_whole]
  iintro ⟨⟨%g, -, H⟩, Hr⟩
  isplitl [H]
  · iexists g; iexact H
  iexact Hr

set_option backward.isDefEq.respectTransparency.types false in
set_option maxHeartbeats 800000 in
/-- From any memory every execution ends, with each array at what the proof data say and every counter at zero. -/
theorem run_counted : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_first m) (hout := carried_last m)

theorem run_main : θ_run defs (onTc (τ := τ) (main (F := F))) (s₀ m ρ) (Pipeline.FramePost cfgs (dats m) 0 (V m)) :=
  (θ_run defs _ _).mono (fun _ h => h.1) (run_counted m ρ)

/-- The arguments are as they were. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have input : ∀ w : Fin cfg0.W, (dats m 0 c).arrAt w cfg0.N = (dats m 0 c).A w →
      r.2.mem ((c.tc : Thread nD τ).loc (Pipeline.arrRef spec0 w)) = V m c (Pipeline.arrRef spec0 w) :=
    fun w hw => ((h c).1 w).trans (hw.trans (A_eq m c w))
  have rest := (h c).2 main_arg2 (Pipeline.mem_restRefs_of main_arg2 (by decide) (by decide))
  exact ⟨(input 0 ((dats m 0 c).arrAt_in 0 rfl _)).trans (V_main_arg0 m c), (input 2 ((dats m 0 c).arrAt_in 2 rfl _)).trans (V_main_arg1 m c), rest.trans (V_main_arg2 m c), (input 3 ((dats m 0 c).arrAt_in 3 rfl _)).trans (V_main_arg3 m c)⟩

/-- The run with the arguments and the counters as they were. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => kept m h.1 c, h.2⟩) (run_counted m ρ)

end Cert.Inproj

end
-- ==== Proof.InprojHost.lean ====
module

public import proofs.«01_k».proof.Proof.Gen.Kernel2Ideal.Frame
public import proofs.«01_k».proof.Proof.KernelHost

/-! The arrays that the host code hands to the input projection: the weights with their columns in the order of the
body's, the gate columns padded by zeros, and the mask of lanes of one head. -/

@[expose] public section

noncomputable section

namespace Cert.InprojHost

open Cert.Kernel2Ideal Cert.Kernel2Ideal.Gen Idealize.ShloMosaic Idealize.ShloMosaic.TcCoe Idealize.SL.Sem Idealize.ShloMosaic.Routing

variable (m : (ℓ : Loc nD τ sig) → Buf (Elt Ideal) ℓ) (c : Dev nD)

/-- The convolved columns and the decay's stay in place. -/
theorem convolved (k : Fin 1024) (n : Fin 1152) :
    V m c main_v9 (ix2 k (⟨n.val, by omega⟩ : Fin 3072)) = m (c, Proc.devRef .tc main_arg2) (ix2 k (⟨n.val, by omega⟩ : Fin 2956)) := by
  unfold V
  after_reads_at
  after_reads_simp
  pointwise

theorem decay (k : Fin 1024) (n : Fin 384) :
    V m c main_v9 (ix2 k (⟨1152 + n.val, by omega⟩ : Fin 3072)) = m (c, Proc.devRef .tc main_arg2) (ix2 k (⟨1152 + n.val, by omega⟩ : Fin 2956)) := by
  unfold V
  after_reads_at
  after_reads_simp
  pointwise

/-- The attention's columns and the pool's come from past the gates. -/
theorem band (k : Fin 1024) (n : Fin 1152) :
    V m c main_v9 (ix2 k (⟨1536 + n.val, by omega⟩ : Fin 3072)) = m (c, Proc.devRef .tc main_arg2) (ix2 k (⟨1548 + n.val, by omega⟩ : Fin 2956)) := by
  unfold V
  after_reads_at
  after_reads_simp
  rw [dif_neg (by omega), dif_neg (by omega), dif_pos (by omega)]
  pointwise
  exact congrArg (fun q => m (c, Proc.devRef .tc main_arg2) (ix2 k q)) (Fin.ext (by dsimp only; omega))

theorem pool (k : Fin 1024) (n : Fin 256) :
    V m c main_v9 (ix2 k (⟨2688 + n.val, by omega⟩ : Fin 3072)) = m (c, Proc.devRef .tc main_arg2) (ix2 k (⟨2700 + n.val, by omega⟩ : Fin 2956)) := by
  unfold V
  after_reads_at
  after_reads_simp
  rw [dif_neg (by omega), dif_neg (by omega), dif_neg (by omega), dif_pos (by omega)]
  pointwise
  exact congrArg (fun q => m (c, Proc.devRef .tc main_arg2) (ix2 k q)) (Fin.ext (by dsimp only; omega))

/-- The twelve gates, then zeros. -/
theorem gates (k : Fin 1024) (n : Fin 12) :
    V m c main_v9 (ix2 k (⟨2944 + n.val, by omega⟩ : Fin 3072)) = m (c, Proc.devRef .tc main_arg2) (ix2 k (⟨1536 + n.val, by omega⟩ : Fin 2956)) := by
  unfold V
  after_reads_at
  after_reads_simp
  rw [dif_neg (by omega), dif_neg (by omega), dif_neg (by omega), dif_neg (by omega)]
  have lands := fun (a' : Fin 1024) (b' : Fin 12) => KernelHost.lands_columns scatter_S1024x128_S1_S1024x12_01_n_1_0 rfl rfl rfl
    (broadcastInDim S1 ![] bcast_S_S1 (constantI S_ 32 0#32)) rfl a' k b' ⟨2944 + n.val - 1152 - 384 - 1152 - 256, by omega⟩
  refine scatter_set_hit _ _ _ _ _ (m (c, Proc.devRef .tc main_arg2) (ix2 k (⟨1536 + n.val, by omega⟩ : Fin 2956)))
    (fun j hj => ?_) (ix2 k n) ((lands k n).2 ⟨rfl, by dsimp only; omega⟩)
  · obtain ⟨h1, h2⟩ := (lands (j 0) (j 1)).1 ((congrArg (fun t => ScatterDims.resultIdx? _ t _) (eq_ix2 j).symm).trans hj)
    rw [eq_ix2 j, h1]
    pointwise
    exact congrArg (fun q => m (c, Proc.devRef .tc main_arg2) (ix2 k q)) (Fin.ext (by dsimp only at h2 ⊢; omega))

theorem padding (k : Fin 1024) (n : Fin 116) : V m c main_v9 (ix2 k (⟨2956 + n.val, by omega⟩ : Fin 3072)) = (0 : EReal) := by
  unfold V
  after_reads_at
  after_reads_simp
  rw [dif_neg (by omega), dif_neg (by omega), dif_neg (by omega), dif_neg (by omega)]
  have lands := fun (a' : Fin 1024) (b' : Fin 12) => KernelHost.lands_columns scatter_S1024x128_S1_S1024x12_01_n_1_0 rfl rfl rfl
    (broadcastInDim S1 ![] bcast_S_S1 (constantI S_ 32 0#32)) rfl a' k b' ⟨2956 + n.val - 1152 - 384 - 1152 - 256, by omega⟩
  refine (scatter_set_miss _ _ _ _ _ (fun j hj => ?_)).trans ?_
  · obtain ⟨h1, h2⟩ := (lands (j 0) (j 1)).1 ((congrArg (fun t => ScatterDims.resultIdx? _ t _) (eq_ix2 j).symm).trans hj)
    have : (j 1).val < 12 := (j 1).isLt
    dsimp only at h2
    omega
  · pointwise

/-- A lane's head, as the host code divides. -/
def quotient (l : ℕ) : BitVec 32 :=
  Scalar.select
    (IntOp.andi
      (IntOp.cmpi CmpIPredicate.ne (if BitVec.ofNat 32 l = 0 then (0#32 : BitVec 32) else if (BitVec.ofNat 32 l).msb = true then (-1 : BitVec 32) else 1)
        (if (64#32 : BitVec 32) = 0 then (0#32 : BitVec 32) else if BitVec.msb 64#32 = true then (-1 : BitVec 32) else 1))
      (IntOp.cmpi CmpIPredicate.ne (IntOp.remsi ArithUnit.host (BitVec.ofNat 32 l) 64#32) 0#32))
    (IntOp.subi (IntOp.divsi ArithUnit.host (BitVec.ofNat 32 l) 64#32) 1#32)
    (IntOp.divsi ArithUnit.host (BitVec.ofNat 32 l) 64#32)

theorem quotient_eq : ∀ l : Fin 384, quotient l.val = BitVec.ofNat 32 (l.val / 64) := by
  unfold quotient
  decide +kernel

theorem same_head : ∀ a b : Fin 6, IntOp.cmpi CmpIPredicate.eq (BitVec.ofNat 32 a.val) (BitVec.ofNat 32 b.val) = if a.val = b.val then 1#1 else 0#1 := by
  decide +kernel

/-- The mask. -/
theorem mask (l n : Fin 384) : V m c main_v19 (ix2 l n) = if l.val / 64 = n.val / 64 then (1 : EReal) else 0 := by
  unfold V
  after_reads_at
  show FloatOps.uitofp (F := Ideal) FTy.bf16 (IntOp.cmpi CmpIPredicate.eq (quotient l.val) (quotient n.val)) = _
  rw [quotient_eq, quotient_eq, same_head ⟨l.val / 64, by omega⟩ ⟨n.val / 64, by omega⟩]
  dsimp only
  split
  · show ((((1#1 : BitVec 1).toNat : ℕ) : ℝ) : EReal) = 1
    simp
  · show ((((0#1 : BitVec 1).toNat : ℕ) : ℝ) : EReal) = 0
    simp

end Cert.InprojHost

end
-- ==== Proof.InprojSpec.lean ====
module

public import Idealize.ShloMosaic.Lib.Pointwise

/-! The input projection of one layer as mathematics: the columns of a token, the short convolution over a sequence with
the three rows before it, and the lengths of the heads. -/

@[expose] public section

noncomputable section

namespace Cert.InprojSpec

open Idealize.ShloMosaic

variable (X : Fin 16 → Fin 4096 → Fin 1024 → EReal) (H : Fin 16 → Fin 3 → Fin 1152 → EReal) (W : Fin 1024 → Fin 2956 → EReal)
  (C : Fin 4 → Fin 1152 → EReal)

/-- One column of a token's projection. -/
def column (b : Fin 16) (t : Fin 4096) (n : Fin 2956) : EReal := ∑ k, X b t k * W k n

/-- The convolved columns of a sequence behind the three rows before it. -/
def extended (b : Fin 16) (u : Fin 4099) (n : Fin 1152) : EReal :=
  if h : u.val < 3 then H b ⟨u.val, h⟩ n else column X W b ⟨u.val - 3, by omega⟩ ⟨n.val, by omega⟩

/-- A value times its logistic. -/
def swish (z : EReal) : EReal := z * Ideal.logistic z

/-- Four rows weighted by the convolution. -/
def weighted (e0 e1 e2 e3 w0 w1 w2 w3 : EReal) : EReal := swish (e0 * w0 + e1 * w1 + e2 * w2 + e3 * w3)

/-- The activated convolution at token `t`. -/
def active (b : Fin 16) (t : Fin 4096) (n : Fin 1152) : EReal :=
  weighted (extended X H W b ⟨t.val, by omega⟩ n) (extended X H W b ⟨1 + t.val, by omega⟩ n)
    (extended X H W b ⟨2 + t.val, by omega⟩ n) (extended X H W b ⟨3 + t.val, by omega⟩ n) (C 0 n) (C 1 n) (C 2 n) (C 3 n)

/-- The reciprocal length of a head. -/
def inverse (a : Fin 64 → EReal) : EReal := Ideal.rsqrt (∑ d, a d * a d + Ideal.ofBits .f32 0x358637BD#32)

/-- The head of lane `n` among the columns from `p`. -/
def head (b : Fin 16) (t : Fin 4096) (p : ℕ) (hp : p ≤ 768) (n : Fin 384) (d : Fin 64) : EReal :=
  active X H W C b t ⟨p + (64 * (n.val / 64) + d.val), by omega⟩

/-- A query, a key and a value. -/
def query (b : Fin 16) (t : Fin 4096) (n : Fin 384) : EReal :=
  active X H W C b t ⟨n.val, by omega⟩ * inverse (head X H W C b t 0 (by omega) n) * Ideal.ofBits .f32 0x3E000000#32
def key (b : Fin 16) (t : Fin 4096) (n : Fin 384) : EReal :=
  active X H W C b t ⟨384 + n.val, by omega⟩ * inverse (head X H W C b t 384 (by omega) n)
def value (b : Fin 16) (t : Fin 4096) (n : Fin 384) : EReal := active X H W C b t ⟨768 + n.val, by omega⟩

/-- The gate columns, zero past the twelve there are. -/
def gate (b : Fin 16) (t : Fin 4096) (n : Fin 128) : EReal :=
  if h : n.val < 12 then column X W b t ⟨1536 + n.val, by omega⟩ else 0

/-- A sum along the lanes masked to one head is the head's own sum. -/
theorem masked_sum (f : Fin 384 → EReal) (h : ℕ) (hh : h < 6) :
    ∑ l : Fin 384, f l * (if l.val / 64 = h then 1 else 0) = ∑ d : Fin 64, f ⟨64 * h + d.val, by omega⟩ := by
  symm
  refine Finset.sum_of_injOn (fun d : Fin 64 => (⟨64 * h + d.val, by omega⟩ : Fin 384)) ?_ (fun _ _ => Finset.mem_coe.2 (Finset.mem_univ _)) ?_ ?_
  · intro a _ b _ e
    have := congrArg Fin.val e
    exact Fin.ext (by simpa using this)
  · intro l _ hl
    rw [if_neg, mul_zero]
    intro e
    refine hl ⟨⟨l.val % 64, Nat.mod_lt _ (by decide)⟩, Finset.mem_coe.2 (Finset.mem_univ _), Fin.ext ?_⟩
    show 64 * h + l.val % 64 = l.val
    omega
  · intro d _
    rw [if_pos, mul_one]
    show (64 * h + d.val) / 64 = h
    omega

end Cert.InprojSpec

end
-- ==== Proof.InprojBlock.lean ====
module

public import proofs.«01_k».proof.Proof.InprojBody
public import proofs.«01_k».proof.Proof.InprojSpec
public import Idealize.ShloMosaic.Lib.Pointwise
public import Idealize.ShloMosaic.Lib.Pipeline.ValueKit.Tiles

/-! The blocks the input projection's body writes, read at an index. -/

@[expose] public section

set_option backward.proofsInPublic true

noncomputable section

namespace Cert.InprojBlock

open Cert.Kernel2Ideal Cert.Kernel2Ideal.Gen Idealize.ShloMosaic Idealize.ShloMosaic.TcCoe Idealize.SL.Sem Cert.InprojSpec Cert.Inproj

/-- Row `r` of a tile times column `n` of the weights. -/
def pr (x0 : Vec Ideal S1x512x1024 .f32) (x1 : Vec Ideal S1024x3072 .bf16) (r : Fin 512) (n : Fin 3072) : EReal :=
  ∑ k : Fin 1024, x0 (ix3 0 r k) * x1 (ix2 k n)

variable (x : Vec Ideal S1x512x1024 .f32) (a : FVec Ideal S512x1024 .bf16) (w : Vec Ideal S1024x512 .bf16)

theorem pay5_apply (r : Fin 512) (k : Fin 1024) : k0_pay5 x (ix2 r k) = x (ix3 0 r k) := by
  pointwise [k0_pay5]

theorem pay6_apply (r n : Fin 512) : k0_pay6 x w (ix2 r n) = ∑ k : Fin 1024, k0_pay5 x (ix2 r k) * w (ix2 k n) := by
  pointwise [k0_pay6]

theorem pay7_apply (r n : Fin 512) : k0_pay7 x w (ix2 r n) = ∑ k : Fin 1024, k0_pay5 x (ix2 r k) * w (ix2 k n) := by
  pointwise [k0_pay7]

theorem pay8_apply (r n : Fin 512) : k0_pay8 x w (ix2 r n) = ∑ k : Fin 1024, k0_pay5 x (ix2 r k) * w (ix2 k n) := by
  pointwise [k0_pay8]

theorem pay11_apply (r n : Fin 512) : k0_pay11 a w (ix2 r n) = ∑ k : Fin 1024, a (ix2 r k) * w (ix2 k n) := by
  pointwise [k0_pay11]

theorem pay14_apply (r n : Fin 512) : k0_pay14 a w (ix2 r n) = ∑ k : Fin 1024, a (ix2 r k) * w (ix2 k n) := by
  pointwise [k0_pay14]

theorem pay17_apply (r n : Fin 512) : k0_pay17 a w (ix2 r n) = ∑ k : Fin 1024, a (ix2 r k) * w (ix2 k n) := by
  pointwise [k0_pay17]

theorem pay9_apply (r : Fin 512) (n : Fin 384) : k0_pay9 x w (ix3 0 r n) = k0_pay8 x w (ix2 r ⟨128 + n.val, by omega⟩) := by
  pointwise [k0_pay9]

theorem pay10_apply (r : Fin 512) (n : Fin 128) : k0_pay10 x w (ix2 r n) = k0_pay8 x w (ix2 r ⟨n.val, by omega⟩) := by
  pointwise [k0_pay10]

theorem pay12_apply (r n : Fin 512) : k0_pay12 a w (ix3 0 r n) = k0_pay11 a w (ix2 r n) := by
  pointwise [k0_pay12]

theorem pay13_apply (r : Fin 512) (n : Fin 128) : k0_pay13 a w (ix3 0 r n) = k0_pay11 a w (ix2 r ⟨384 + n.val, by omega⟩) := by
  pointwise [k0_pay13]

theorem pay15_apply (r n : Fin 512) : k0_pay15 a w (ix3 0 r n) = k0_pay14 a w (ix2 r n) := by
  pointwise [k0_pay15]

theorem pay16_apply (r n : Fin 512) : k0_pay16 a w (ix3 0 r n) = k0_pay14 a w (ix2 r n) := by
  pointwise [k0_pay16]

theorem pay18_apply (r : Fin 512) (n : Fin 128) : k0_pay18 a w (ix3 0 r n) = k0_pay17 a w (ix2 r ⟨n.val, by omega⟩) := by
  pointwise [k0_pay18]

theorem pay20_apply (r : Fin 512) (n : Fin 256) :
    k0_pay20 (k0_pay19 a w) (ix3 0 r n) = k0_pay17 a w (ix2 r ⟨128 + n.val, by omega⟩) := by
  pointwise [k0_pay20, k0_pay19]

theorem pay21_apply (v : FVec Ideal S512x512 .f32) (r : Fin 512) (n : Fin 128) :
    k0_pay21 v (ix3 0 r n) = v (ix2 r ⟨384 + n.val, by omega⟩) := by
  pointwise [k0_pay21]

theorem pay22_apply (v : FVec Ideal S512x512 .f32) (r : Fin 512) (n : Fin 128) :
    k0_pay22 v (ix3 0 r n) = v (ix2 r ⟨n.val, by omega⟩) := by
  pointwise [k0_pay22]

theorem pay23_apply (a b c d : Vec Ideal S128x384 .f32) (wa wb wc wd : Vec Ideal S1x384 .f32) (r : Fin 128) (n : Fin 384) :
    k0_pay23 a wa b wb c wc d wd (ix2 r n)
      = weighted (a (ix2 r n)) (b (ix2 r n)) (c (ix2 r n)) (d (ix2 r n)) (wa (ix2 0 n)) (wb (ix2 0 n)) (wc (ix2 0 n)) (wd (ix2 0 n)) := by
  pointwise [k0_pay23, weighted, swish]

theorem pay25_apply (a : FVec Ideal S128x384 .f32) (q : FVec Ideal S128x384 .bf16) (m : Vec Ideal S384x384 .bf16) (r : Fin 128) (n : Fin 384) :
    k0_pay25 a q m (ix3 0 r n)
      = a (ix2 r n) * (Ideal.rsqrt (∑ l : Fin 384, q (ix2 r l) * m (ix2 l n) + Ideal.ofBits .f32 0x358637BD#32) * Ideal.ofBits .f32 0x3E000000#32) := by
  pointwise [k0_pay25]

theorem pay28_apply (a : FVec Ideal S128x384 .f32) (q : FVec Ideal S128x384 .bf16) (m : Vec Ideal S384x384 .bf16) (r : Fin 128) (n : Fin 384) :
    k0_pay28 a q m (ix3 0 r n)
      = a (ix2 r n) * Ideal.rsqrt (∑ l : Fin 384, q (ix2 r l) * m (ix2 l n) + Ideal.ofBits .f32 0x358637BD#32) := by
  pointwise [k0_pay28]

theorem pay30_apply (a : FVec Ideal S128x384 .f32) (r : Fin 128) (n : Fin 384) : k0_pay30 a (ix3 0 r n) = a (ix2 r n) := by
  pointwise [k0_pay30]

theorem pay2_apply (v : Vec Ideal S3x1152 .f32) (r : Fin 3) (n : Fin 1152) : k0_pay2 v (ix3 0 r n) = v (ix2 r n) := by
  pointwise [k0_pay2]

theorem pay3_apply (v : Vec Ideal S3x1152 .f32) (r : Fin 3) (n : Fin 1152) : k0_pay3 v (ix2 r n) = v (ix2 r n) := by
  pointwise [k0_pay3]

theorem pay4_apply (v : Vec Ideal S1x3x1152 .f32) (r : Fin 3) (n : Fin 1152) : k0_pay4 v (ix2 r n) = v (ix3 0 r n) := by
  pointwise [k0_pay4]

theorem squares_apply (a : FVec Ideal S128x384 .f32) (i : S128x384.Idx) : squares a i = a i * a i := by
  pointwise [squares]

/-! ## The projection's blocks -/

theorem zero3 : (![0, 0, 0] : Fin 3 → ℕ) = fun _ => 0 := by funext a; fin_cases a <;> rfl
theorem zero2 : (![0, 0] : Fin 2 → ℕ) = fun _ => 0 := by funext a; fin_cases a <;> rfl

section
variable (x0 : Vec Ideal S1x512x1024 .f32) (x1 : Vec Ideal S1024x3072 .bf16)

theorem tile_eq : tile x0 = x0 := View.ld_unit_zero zero3 _ x0

theorem cols_apply (c : ℕ) (h) (k : Fin 1024) (n : Fin 512) (hn : c + n.val < 3072) : cols x1 c h (ix2 k n) = x1 (ix2 k ⟨c + n.val, hn⟩) :=
  View.ld_unit_apply_of _ _ _ _ _ _ fun a => by fin_cases a <;> simp [ix2]

theorem product (c : ℕ) (h) (r n : Fin 512) (hn : c + n.val < 3072) :
    ∑ k : Fin 1024, k0_pay5 (tile x0) (ix2 r k) * cols x1 c h (ix2 k n) = pr x0 x1 r ⟨c + n.val, hn⟩ :=
  Finset.sum_congr rfl fun k _ => by rw [pay5_apply, tile_eq, cols_apply x1 c h k n hn]

theorem pr_congr (r : Fin 512) {n n' : Fin 3072} (h : n.val = n'.val) : pr x0 x1 r n = pr x0 x1 r n' := by
  rw [Fin.ext h]

theorem proj_apply (r : Fin 512) (n : Fin 1152) : proj x0 x1 r n.val = pr x0 x1 r ⟨n.val, by omega⟩ := by
  unfold proj
  split
  · rw [pay6_apply, product x0 x1 0 _ r _ (by dsimp only; omega)]
    exact pr_congr x0 x1 r (by dsimp only; omega)
  · split
    · rw [pay7_apply, product x0 x1 512 _ r _ (by dsimp only; omega)]
      exact pr_congr x0 x1 r (by dsimp only; omega)
    · rw [pay10_apply, pay8_apply, product x0 x1 1024 _ r _ (by dsimp only; omega)]
      exact pr_congr x0 x1 r (by dsimp only; omega)

theorem outZ_apply (r : Fin 512) (n : Fin 384) : outZ x0 x1 (ix3 0 r n) = pr x0 x1 r ⟨1152 + n.val, by omega⟩ := by
  unfold outZ
  rw [View.canon_unit_zero zero3, pay9_apply, pay8_apply, product x0 x1 1024 _ r _ (by dsimp only; omega)]
  exact pr_congr x0 x1 r (by dsimp only; omega)

theorem outC_apply (r : Fin 512) (n : Fin 256) : outC x0 x1 (ix3 0 r n) = pr x0 x1 r ⟨2688 + n.val, by omega⟩ := by
  unfold outC
  rw [View.canon_unit_zero zero3, pay20_apply, pay17_apply, product x0 x1 2560 _ r _ (by dsimp only; omega)]
  exact pr_congr x0 x1 r (by dsimp only; omega)

theorem outG_apply (r : Fin 512) (n : Fin 128) : outG x0 x1 (ix3 0 r n) = pr x0 x1 r ⟨2944 + n.val, by omega⟩ := by
  unfold outG
  rw [View.canon_unit_zero zero3, pay21_apply, pay17_apply, product x0 x1 2560 _ r _ (by dsimp only; omega)]
  exact pr_congr x0 x1 r (by dsimp only; omega)

theorem outB_apply (r : Fin 512) (n : Fin 1152) : outB x0 x1 (ix3 0 r n) = pr x0 x1 r ⟨1536 + n.val, by omega⟩ := by
  unfold outB
  canon_tiles x h using (band_covered (F := Ideal) _ _ _ _)
  all_goals
    obtain ⟨q, r', n', rfl⟩ : ∃ q r' n', x = ix3 q r' n' := ⟨x 0, x 1, x 2, eq_ix3 x⟩
    obtain rfl : q = 0 := Subsingleton.elim _ _
    have e1 : r.val = r'.val := by simpa [ix3] using h1
    obtain rfl : r' = r := Fin.ext e1.symm
  · have e2 : n.val = 1024 + n'.val := by simpa [ix3] using h2
    refine (pay18_apply _ _ r' n').trans ?_
    rw [pay17_apply, product x0 x1 2560 _ r' _ (by dsimp only; omega)]
    exact pr_congr x0 x1 r' (by dsimp only; omega)
  · have e2 : n.val = 512 + n'.val := by simpa [ix3] using h2
    refine (pay15_apply _ _ r' n').trans ?_
    rw [pay14_apply, product x0 x1 2048 _ r' _ (by omega)]
    exact pr_congr x0 x1 r' (by dsimp only; omega)
  · have e2 : n.val = n'.val := by simpa [ix3] using h2
    refine (pay12_apply _ _ r' n').trans ?_
    rw [pay11_apply, product x0 x1 1536 _ r' _ (by omega)]
    exact pr_congr x0 x1 r' (by dsimp only; omega)

theorem outKv_apply (r : Fin 512) (n : Fin 768) : outKv x0 x1 (ix3 0 r n) = pr x0 x1 r ⟨1920 + n.val, by omega⟩ := by
  unfold outKv
  canon_tiles x h using (kept_covered (F := Ideal) _ _ _ _)
  all_goals
    obtain ⟨q, r', n', rfl⟩ : ∃ q r' n', x = ix3 q r' n' := ⟨x 0, x 1, x 2, eq_ix3 x⟩
    obtain rfl : q = 0 := Subsingleton.elim _ _
    have e1 : r.val = r'.val := by simpa [ix3] using h1
    obtain rfl : r' = r := Fin.ext e1.symm
  · have e2 : n.val = 640 + n'.val := by simpa [ix3] using h2
    refine (pay22_apply _ r' n').trans ?_
    rw [pay17_apply, product x0 x1 2560 _ r' _ (by dsimp only; omega)]
    exact pr_congr x0 x1 r' (by dsimp only; omega)
  · have e2 : n.val = 128 + n'.val := by simpa [ix3] using h2
    refine (pay16_apply _ _ r' n').trans ?_
    rw [pay14_apply, product x0 x1 2048 _ r' _ (by omega)]
    exact pr_congr x0 x1 r' (by dsimp only; omega)
  · have e2 : n.val = n'.val := by simpa [ix3] using h2
    refine (pay13_apply _ _ r' n').trans ?_
    rw [pay11_apply, product x0 x1 1536 _ r' _ (by dsimp only; omega)]
    exact pr_congr x0 x1 r' (by dsimp only; omega)

end

/-! ## The convolution and what is made of it -/

/-- Four groups of 128 rows stacked, at a row. -/
theorem stacked_apply (p : (g : ℕ) → g < 4 → FVec Ideal S1x128x384 .f32) (G : Fin 512 → Fin 384 → EReal)
    (hp : ∀ g hg (r : Fin 128) (n : Fin 384), p g hg (ix3 0 r n) = G ⟨128 * g + r.val, by omega⟩ n) (r : Fin 512) (n : Fin 384) :
    stacked p (ix3 0 r n) = G r n := by
  unfold stacked
  canon_tiles x h using (groups_covered (F := Ideal) _ _ _ _ _)
  all_goals
    obtain ⟨q, r', n', rfl⟩ : ∃ q r' n', x = ix3 q r' n' := ⟨x 0, x 1, x 2, eq_ix3 x⟩
    obtain rfl : q = 0 := Subsingleton.elim _ _
    have e2 : n.val = n'.val := by simpa [ix3] using h2
    obtain rfl : n' = n := Fin.ext e2.symm
    refine (hp _ _ r' n').trans (congrArg (fun k => G k n') (Fin.ext ?_))
    have e1 := h1
    simp [ix3] at e1
    dsimp only
    omega

theorem tap_apply (s : Vec Ideal S520x1152 .f32) (r c : ℕ) (hr hc) (i : Fin 128) (n : Fin 384) :
    tap s r c hr hc (ix2 i n) = s (ix2 ⟨r + i.val, by omega⟩ ⟨c + n.val, by omega⟩) :=
  View.ld_unit_apply_of _ _ _ _ _ _ fun a => by fin_cases a <;> simp [ix2]

theorem weight_apply (x3 : Vec Ideal S4x1152 .f32) (r c : ℕ) (hr hc) (n : Fin 384) :
    weight x3 r c hr hc (ix2 0 n) = x3 (ix2 ⟨r, hr⟩ ⟨c + n.val, by omega⟩) :=
  View.ld_unit_apply_of _ _ _ _ _ _ fun a => by fin_cases a <;> simp [ix2]

theorem heads_eq (x4 : Vec Ideal S384x384 .bf16) : heads x4 = x4 := View.ld_unit_zero zero2 _ x4

/-- The masked squares of a row, summed. -/
theorem lengths (x4 : Vec Ideal S384x384 .bf16) (hm : ∀ l n : Fin 384, x4 (ix2 l n) = if l.val / 64 = n.val / 64 then 1 else 0)
    (a : FVec Ideal S128x384 .f32) (r : Fin 128) (n : Fin 384) :
    ∑ l : Fin 384, squares a (ix2 r l) * heads x4 (ix2 l n)
      = ∑ d : Fin 64, a (ix2 r ⟨64 * (n.val / 64) + d.val, by omega⟩) * a (ix2 r ⟨64 * (n.val / 64) + d.val, by omega⟩) := by
  rw [heads_eq]
  simp only [hm, squares_apply]
  exact masked_sum (fun l => a (ix2 r l) * a (ix2 r l)) (n.val / 64) (by omega)

section
variable (X : Fin 16 → Fin 4096 → Fin 1024 → EReal) (H : Fin 16 → Fin 3 → Fin 1152 → EReal) (W : Fin 1024 → Fin 2956 → EReal)
  (C : Fin 4 → Fin 1152 → EReal) (b : Fin 16) (i : ℕ) (hi : i < 8) (s : Vec Ideal S520x1152 .f32) (x3 : Vec Ideal S4x1152 .f32)
  (hs : ∀ (u : Fin 515) (n : Fin 1152), s (ix2 ⟨5 + u.val, by omega⟩ n) = extended X H W b ⟨512 * i + u.val, by omega⟩ n)
  (hc : ∀ (j : Fin 4) (n : Fin 1152), x3 (ix2 j n) = C j n)

include hs in
theorem row (r : Fin 520) (h5 : 5 ≤ r.val) (n : Fin 1152) (u : Fin 4099) (hu : u.val + 5 = 512 * i + r.val) :
    s (ix2 r n) = extended X H W b u n := by
  have h := hs ⟨r.val - 5, by omega⟩ n
  have e : (⟨5 + (r.val - 5), by omega⟩ : Fin 520) = r := Fin.ext (by dsimp only; omega)
  have e' : (⟨512 * i + (r.val - 5), by omega⟩ : Fin 4099) = u := Fin.ext (by dsimp only; omega)
  dsimp only at h
  rwa [e, e'] at h

include hs hc in
theorem act_apply (g c : ℕ) (hg : g < 4) (hc' : c ≤ 768) (r : Fin 128) (n : Fin 384) :
    act s x3 g c hg hc' (ix2 r n) = active X H W C b ⟨512 * i + (128 * g + r.val), by omega⟩ ⟨c + n.val, by omega⟩ := by
  unfold act active
  rw [pay23_apply]
  rw [tap_apply, tap_apply, tap_apply, tap_apply, weight_apply, weight_apply, weight_apply, weight_apply, hc, hc, hc, hc]
  rw [row X H W b i hi s hs _ (by dsimp only; omega) _ ⟨512 * i + (128 * g + r.val), by omega⟩ (by dsimp only; omega),
    row X H W b i hi s hs _ (by dsimp only; omega) _ ⟨1 + (512 * i + (128 * g + r.val)), by omega⟩ (by dsimp only; omega),
    row X H W b i hi s hs _ (by dsimp only; omega) _ ⟨2 + (512 * i + (128 * g + r.val)), by omega⟩ (by dsimp only; omega),
    row X H W b i hi s hs _ (by dsimp only; omega) _ ⟨3 + (512 * i + (128 * g + r.val)), by omega⟩ (by dsimp only; omega)]
  rfl

variable (x4 : Vec Ideal S384x384 .bf16) (hm : ∀ l n : Fin 384, x4 (ix2 l n) = if l.val / 64 = n.val / 64 then 1 else 0)

include hs hc hm in
theorem groupQ_apply (g : ℕ) (hg : g < 4) (r : Fin 128) (n : Fin 384) :
    groupQ s x3 x4 g hg (ix3 0 r n) = query X H W C b ⟨512 * i + (128 * g + r.val), by omega⟩ n := by
  unfold groupQ query inverse head
  rw [pay25_apply, lengths x4 hm, mul_assoc]
  simp only [act_apply X H W C b i hi s x3 hs hc]
  simp only [Nat.zero_add]

include hs hc hm in
theorem groupK_apply (g : ℕ) (hg : g < 4) (r : Fin 128) (n : Fin 384) :
    groupK s x3 x4 g hg (ix3 0 r n) = key X H W C b ⟨512 * i + (128 * g + r.val), by omega⟩ n := by
  unfold groupK key inverse head
  rw [pay28_apply, lengths x4 hm]
  simp only [act_apply X H W C b i hi s x3 hs hc]

include hs hc in
theorem groupV_apply (g : ℕ) (hg : g < 4) (r : Fin 128) (n : Fin 384) :
    groupV s x3 g hg (ix3 0 r n) = value X H W C b ⟨512 * i + (128 * g + r.val), by omega⟩ n := by
  unfold groupV value
  rw [pay30_apply, act_apply X H W C b i hi s x3 hs hc]

include hs in
theorem outCs_apply (r : Fin 3) (n : Fin 1152) : outCs s (ix3 0 r n) = extended X H W b ⟨512 * i + 512 + r.val, by omega⟩ n := by
  unfold outCs
  rw [View.canon_unit_zero zero3, pay2_apply]
  have e : last s (ix2 r n) = s (ix2 ⟨517 + r.val, by omega⟩ n) :=
    View.ld_unit_apply_of _ _ _ _ _ _ fun a => by fin_cases a <;> simp [ix2]
  rw [e, row X H W b i hi s hs _ (by dsimp only; omega) n ⟨512 * i + 512 + r.val, by omega⟩ (by dsimp only; omega)]

end

end Cert.InprojBlock

end
-- ==== Proof.InprojValue.lean ====
module

public import proofs.«01_k».proof.Proof.InprojRun
public import proofs.«01_k».proof.Proof.InprojHost
public import proofs.«01_k».proof.Proof.InprojBlock
public import Idealize.ShloMosaic.Lib.Pipeline.ValueKit

/-! What the input projection leaves in its nine results. -/

@[expose] public section

set_option backward.proofsInPublic true
set_option maxRecDepth 16384

noncomputable section

namespace Cert.InprojValue

open Cert.Kernel2Ideal Cert.Kernel2Ideal.Gen Idealize.ShloMosaic Idealize.ShloMosaic.TcCoe Idealize.SL.Sem Cert.InprojSpec Cert.Inproj
  Cert.InprojBlock

variable (m : (ℓ : Loc nD τ sig) → Buf (Elt Ideal) ℓ) (c : Dev nD)

/-- The launch's arguments by coordinates. -/
def tokens (b : Fin 16) (t : Fin 4096) (k : Fin 1024) : EReal := m (c, Proc.devRef .tc main_arg0) (ix3 b t k)
def history (b : Fin 16) (t : Fin 3) (n : Fin 1152) : EReal := m (c, Proc.devRef .tc main_arg1) (ix3 b t n)
def weights (k : Fin 1024) (n : Fin 2956) : EReal := m (c, Proc.devRef .tc main_arg2) (ix2 k n)
def taps (j : Fin 4) (n : Fin 1152) : EReal := m (c, Proc.devRef .tc main_arg3) (ix2 j n)

/-- Point `t` of the grid works on tile `t mod 8` of sequence `t / 8`. -/
theorem input_facts : ∀ t : Fin cfg0.N, win0_0.index t = ![t.val / 8, t.val % 8, 0] ∧ win0_1.index t = ![0, 0]
    ∧ win0_2.index t = ![t.val / 8, 0, 0] ∧ win0_3.index t = ![0, 0] ∧ win0_4.index t = ![0, 0] ∧ ((grid0.coords t) 1).val = t.val % 8 :=
  (by decide +kernel : ∀ t : Fin grid0.N, win0_0.index t = ![t.val / 8, t.val % 8, 0] ∧ win0_1.index t = ![0, 0]
    ∧ win0_2.index t = ![t.val / 8, 0, 0] ∧ win0_3.index t = ![0, 0] ∧ win0_4.index t = ![0, 0] ∧ ((grid0.coords t) 1).val = t.val % 8)

theorem output_facts : ∀ t : Fin cfg0.N, win0_5.index t = ![t.val / 8, t.val % 8, 0] ∧ win0_6.index t = ![t.val / 8, t.val % 8, 0]
    ∧ win0_7.index t = ![t.val / 8, t.val % 8, 0] ∧ win0_8.index t = ![t.val / 8, t.val % 8, 0] ∧ win0_9.index t = ![t.val / 8, t.val % 8, 0]
    ∧ win0_10.index t = ![t.val / 8, t.val % 8, 0] ∧ win0_11.index t = ![t.val / 8, t.val % 8, 0] ∧ win0_12.index t = ![t.val / 8, 0, 0]
    ∧ win0_13.index t = ![t.val / 8, 0, 0] :=
  (by decide +kernel : ∀ t : Fin grid0.N, win0_5.index t = ![t.val / 8, t.val % 8, 0] ∧ win0_6.index t = ![t.val / 8, t.val % 8, 0]
    ∧ win0_7.index t = ![t.val / 8, t.val % 8, 0] ∧ win0_8.index t = ![t.val / 8, t.val % 8, 0] ∧ win0_9.index t = ![t.val / 8, t.val % 8, 0]
    ∧ win0_10.index t = ![t.val / 8, t.val % 8, 0] ∧ win0_11.index t = ![t.val / 8, t.val % 8, 0] ∧ win0_12.index t = ![t.val / 8, 0, 0]
    ∧ win0_13.index t = ![t.val / 8, 0, 0])

theorem points (t : Fin cfg0.N) : t.val < 128 := by
  have := t.isLt
  have : cfg0.N = 128 := N_0
  omega

/-- The sequence of a grid point, and the token at row `r` of its tile. -/
def seq (t : Fin cfg0.N) : Fin 16 := ⟨t.val / 8, by have := points t; omega⟩
def tok (t : Fin cfg0.N) (r : Fin 512) : Fin 4096 := ⟨512 * (t.val % 8) + r.val, by omega⟩

section
variable (t : Fin cfg0.N)

theorem tokens_block (r : Fin 512) (k : Fin 1024) : iblk m c 0 t (ix3 0 r k) = tokens m c (seq t) (tok t r) k := by
  have h : iblk m c 0 t (ix3 0 r k) = V m c main_arg0 (ix3 (seq t) (tok t r) k) := by
    blk_ext [iblk, (input_facts t).1, seq, tok]
  rw [h, V_main_arg0]
  rfl

theorem weights_block (k : Fin 1024) (n : Fin 3072) : iblk m c 1 t (ix2 k n) = V m c main_v9 (ix2 k n) := by
  blk_ext [iblk, (input_facts t).2.1]

theorem history_block (r : Fin 3) (n : Fin 1152) : iblk m c 2 t (ix3 0 r n) = history m c (seq t) r n := by
  have h : iblk m c 2 t (ix3 0 r n) = V m c main_arg1 (ix3 (seq t) r n) := by
    blk_ext [iblk, (input_facts t).2.2.1, seq]
  rw [h, V_main_arg1]
  rfl

theorem taps_block (j : Fin 4) (n : Fin 1152) : iblk m c 3 t (ix2 j n) = taps m c j n := by
  have h : iblk m c 3 t (ix2 j n) = V m c main_arg3 (ix2 j n) := by
    blk_ext [iblk, (input_facts t).2.2.2.1]
  rw [h, V_main_arg3]
  rfl

theorem mask_block (l n : Fin 384) : iblk m c 4 t (ix2 l n) = if l.val / 64 = n.val / 64 then (1 : EReal) else 0 := by
  have h : iblk m c 4 t (ix2 l n) = V m c main_v19 (ix2 l n) := by
    blk_ext [iblk, (input_facts t).2.2.2.2.1]
  rw [h]
  exact InprojHost.mask m c l n

/-- A row of the tile's projection, from columns of the laid-out weights that are columns of the weights. -/
theorem pr_column (r : Fin 512) (n : Fin 3072) (n' : Fin 2956)
    (h : ∀ k, V m c main_v9 (ix2 k n) = m (c, Proc.devRef .tc main_arg2) (ix2 k n')) :
    pr (iblk m c 0 t) (iblk m c 1 t) r n = column (tokens m c) (weights m c) (seq t) (tok t r) n' :=
  Finset.sum_congr rfl fun k _ => congrArg₂ (· * ·) (tokens_block m c t r k) ((weights_block m c t k n).trans (h k))

theorem stored_decay (r : Fin 512) (n : Fin 384) :
    outZ (iblk m c 0 t) (iblk m c 1 t) (ix3 0 r n) = column (tokens m c) (weights m c) (seq t) (tok t r) ⟨1152 + n.val, by omega⟩ :=
  (outZ_apply _ _ r n).trans (pr_column m c t r _ _ fun k => InprojHost.decay m c k n)

theorem stored_band (r : Fin 512) (n : Fin 1152) :
    outB (iblk m c 0 t) (iblk m c 1 t) (ix3 0 r n) = column (tokens m c) (weights m c) (seq t) (tok t r) ⟨1548 + n.val, by omega⟩ :=
  (outB_apply _ _ r n).trans (pr_column m c t r _ _ fun k => InprojHost.band m c k n)

theorem stored_pool (r : Fin 512) (n : Fin 256) :
    outC (iblk m c 0 t) (iblk m c 1 t) (ix3 0 r n) = column (tokens m c) (weights m c) (seq t) (tok t r) ⟨2700 + n.val, by omega⟩ :=
  (outC_apply _ _ r n).trans (pr_column m c t r _ _ fun k => InprojHost.pool m c k n)

theorem stored_kept (r : Fin 512) (n : Fin 768) :
    outKv (iblk m c 0 t) (iblk m c 1 t) (ix3 0 r n) = column (tokens m c) (weights m c) (seq t) (tok t r) ⟨1932 + n.val, by omega⟩ := by
  refine (outKv_apply _ _ r n).trans (pr_column m c t r _ _ fun k => ?_)
  have h := InprojHost.band m c k ⟨384 + n.val, by omega⟩
  have e : (⟨1920 + n.val, by omega⟩ : Fin 3072) = ⟨1536 + (384 + n.val), by omega⟩ := Fin.ext (by dsimp only; omega)
  have e' : (⟨1932 + n.val, by omega⟩ : Fin 2956) = ⟨1548 + (384 + n.val), by omega⟩ := Fin.ext (by dsimp only; omega)
  rw [e, e']
  exact h

theorem stored_gate (r : Fin 512) (n : Fin 128) :
    outG (iblk m c 0 t) (iblk m c 1 t) (ix3 0 r n) = gate (tokens m c) (weights m c) (seq t) (tok t r) n := by
  refine (outG_apply _ _ r n).trans ?_
  unfold gate
  split
  · rename_i hn
    exact pr_column m c t r _ _ fun k => InprojHost.gates m c k ⟨n.val, hn⟩
  · rename_i hn
    refine Finset.sum_eq_zero fun k _ => ?_
    have h := InprojHost.padding m c k ⟨n.val - 12, by omega⟩
    have e : (⟨2956 + (n.val - 12), by omega⟩ : Fin 3072) = ⟨2944 + n.val, by omega⟩ := Fin.ext (by dsimp only; omega)
    dsimp only at h
    rw [e] at h
    exact (congrArg₂ (· * ·) rfl ((weights_block m c t k _).trans h)).trans (mul_zero _)

/-! ## The scratch -/

/-- A row below the first eight is a row of the projection. -/
theorem filled_row (g : Vec Ideal S520x1152 .f32) (r : Fin 520) (h8 : 8 ≤ r.val) (n : Fin 1152) :
    filled g (iblk m c 0 t) (iblk m c 1 t) (ix2 r n)
      = column (tokens m c) (weights m c) (seq t) (tok t ⟨r.val - 8, by omega⟩) ⟨n.val, by omega⟩ := by
  show (if r.val < 8 then g (ix2 r n) else proj (iblk m c 0 t) (iblk m c 1 t) ⟨(r.val - 8) % 512, Nat.mod_lt _ (by decide)⟩ n.val) = _
  rw [if_neg (by omega)]
  have e : (⟨(r.val - 8) % 512, Nat.mod_lt _ (by decide)⟩ : Fin 512) = ⟨r.val - 8, by omega⟩ := Fin.ext (Nat.mod_eq_of_lt (by omega))
  rw [e]
  exact (proj_apply _ _ _ n).trans (pr_column m c t _ _ _ fun k => InprojHost.convolved m c k n)

/-- The rows a tile leaves for the next. -/
theorem left_row (u : Fin 3) (n : Fin 1152) :
    left m c t (ix2 ⟨5 + u.val, by omega⟩ n)
      = column (tokens m c) (weights m c) (seq t) (tok t ⟨509 + u.val, by omega⟩) ⟨n.val, by omega⟩ := by
  unfold left
  generalize hg : filled (fun _ => proj (iblk m c 0 t) (iblk m c 1 t) 0 0) (iblk m c 0 t) (iblk m c 1 t) = g
  show (if 5 ≤ 5 + u.val ∧ 5 + u.val < 8 then k0_pay3 (last g) (ix2 ⟨(5 + u.val - 5) % 3, Nat.mod_lt _ (by decide)⟩ n) else g (ix2 ⟨5 + u.val, by omega⟩ n)) = _
  rw [if_pos (by omega), pay3_apply]
  have e : last g (ix2 ⟨(5 + u.val - 5) % 3, Nat.mod_lt _ (by decide)⟩ n) = g (ix2 ⟨517 + u.val, by omega⟩ n) :=
    View.ld_unit_apply_of _ _ _ _ _ _ fun a => by
      fin_cases a
      · show 517 + u.val = 517 + (5 + u.val - 5) % 3
        omega
      · show n.val = 0 + n.val
        omega
  rw [e, ← hg, filled_row m c t _ _ (by dsimp only; omega)]
  congr 1
  exact Fin.ext (by simp only [tok]; omega)

/-- The scratch's rows from the fifth on are the sequence's rows, three before the tile's first. -/
theorem scratch_row (u : Fin 515) (n : Fin 1152) :
    scratch m c t (ix2 ⟨5 + u.val, by omega⟩ n)
      = extended (tokens m c) (history m c) (weights m c) (seq t) ⟨512 * (t.val % 8) + u.val, by omega⟩ n := by
  unfold scratch
  by_cases hu : 3 ≤ u.val
  · rw [filled_row m c t _ _ (by dsimp only; omega)]
    unfold extended
    rw [dif_neg (by dsimp only; omega)]
    congr 1
    exact Fin.ext (by simp only [tok]; omega)
  · have h3 : u.val < 3 := by omega
    have hf : ∀ g : Vec Ideal S520x1152 .f32, filled g (iblk m c 0 t) (iblk m c 1 t) (ix2 ⟨5 + u.val, by omega⟩ n) = g (ix2 ⟨5 + u.val, by omega⟩ n) :=
      fun g => if_pos (show 5 + u.val < 8 by omega)
    rw [hf]
    unfold opened
    by_cases h0 : t.val % 8 = 0
    · rw [if_pos ((input_facts t).2.2.2.2.2.trans h0)]
      show (if 5 ≤ 5 + u.val ∧ 5 + u.val < 8 then k0_pay4 (View.ld (iblk m c 2 t)
        (Rect.unit (s := S1x3x1152) ![0, 0, 0] S1x3x1152.size inb_S1x3x1152_S1x3x1152_0_0_0)) (ix2 ⟨(5 + u.val - 5) % 3, Nat.mod_lt _ (by decide)⟩ n)
        else left m c (prev t) (ix2 ⟨5 + u.val, by omega⟩ n)) = _
      rw [if_pos (by omega), pay4_apply]
      have e : (⟨(5 + u.val - 5) % 3, Nat.mod_lt _ (by decide)⟩ : Fin 3) = ⟨u.val, h3⟩ := Fin.ext (by dsimp only; omega)
      rw [e]
      refine (congrFun (View.ld_unit_zero zero3 _ (iblk m c 2 t)) _).trans ((history_block m c t ⟨u.val, h3⟩ n).trans ?_)
      unfold extended
      rw [dif_pos (by dsimp only; omega)]
      congr 1
      exact Fin.ext (by dsimp only; omega)
    · rw [if_neg (by rw [(input_facts t).2.2.2.2.2]; exact h0)]
      refine (left_row m c (prev t) ⟨u.val, h3⟩ n).trans ?_
      unfold extended
      rw [dif_neg (by dsimp only; omega)]
      have hp : (prev t).val = t.val - 1 := rfl
      have es : seq (prev t) = seq t := Fin.ext (by simp only [seq, hp]; omega)
      rw [es]
      congr 1
      exact Fin.ext (by simp only [tok, hp]; omega)

theorem stored_query (r : Fin 512) (n : Fin 384) :
    stacked (groupQ (scratch m c t) (iblk m c 3 t) (iblk m c 4 t)) (ix3 0 r n)
      = query (tokens m c) (history m c) (weights m c) (taps m c) (seq t) (tok t r) n :=
  stacked_apply _ (fun r n => query (tokens m c) (history m c) (weights m c) (taps m c) (seq t) (tok t r) n)
    (groupQ_apply (tokens m c) (history m c) (weights m c) (taps m c) (seq t) (t.val % 8) (by omega) (scratch m c t) (iblk m c 3 t)
      (scratch_row m c t) (taps_block m c t) (iblk m c 4 t) (mask_block m c t)) r n

theorem stored_key (r : Fin 512) (n : Fin 384) :
    stacked (groupK (scratch m c t) (iblk m c 3 t) (iblk m c 4 t)) (ix3 0 r n)
      = key (tokens m c) (history m c) (weights m c) (taps m c) (seq t) (tok t r) n :=
  stacked_apply _ (fun r n => key (tokens m c) (history m c) (weights m c) (taps m c) (seq t) (tok t r) n)
    (groupK_apply (tokens m c) (history m c) (weights m c) (taps m c) (seq t) (t.val % 8) (by omega) (scratch m c t) (iblk m c 3 t)
      (scratch_row m c t) (taps_block m c t) (iblk m c 4 t) (mask_block m c t)) r n

theorem stored_value (r : Fin 512) (n : Fin 384) :
    stacked (groupV (scratch m c t) (iblk m c 3 t)) (ix3 0 r n)
      = value (tokens m c) (history m c) (weights m c) (taps m c) (seq t) (tok t r) n :=
  stacked_apply _ (fun r n => value (tokens m c) (history m c) (weights m c) (taps m c) (seq t) (tok t r) n)
    (groupV_apply (tokens m c) (history m c) (weights m c) (taps m c) (seq t) (t.val % 8) (by omega) (scratch m c t) (iblk m c 3 t)
      (scratch_row m c t) (taps_block m c t)) r n

theorem stored_rows (r : Fin 3) (n : Fin 1152) :
    outCs (scratch m c t) (ix3 0 r n)
      = extended (tokens m c) (history m c) (weights m c) (seq t) ⟨512 * (t.val % 8) + 512 + r.val, by omega⟩ n :=
  outCs_apply (tokens m c) (history m c) (weights m c) (seq t) (t.val % 8) (by omega) (scratch m c t) (scratch_row m c t) r n

end

/-! ## The result arrays -/

/-- What the nine results hold. -/
def queries (j : S16x4096x384.Idx) : EReal := query (tokens m c) (history m c) (weights m c) (taps m c) (j 0) (j 1) (j 2)
def keys (j : S16x4096x384.Idx) : EReal := key (tokens m c) (history m c) (weights m c) (taps m c) (j 0) (j 1) (j 2)
def values (j : S16x4096x384.Idx) : EReal := value (tokens m c) (history m c) (weights m c) (taps m c) (j 0) (j 1) (j 2)
def decays (j : S16x4096x384.Idx) : EReal :=
  column (tokens m c) (weights m c) (j 0) (j 1) ⟨1152 + (j 2).val, by have : (j 2).val < 384 := (j 2).isLt; omega⟩
def bands (j : S16x4096x1152.Idx) : EReal :=
  column (tokens m c) (weights m c) (j 0) (j 1) ⟨1548 + (j 2).val, by have : (j 2).val < 1152 := (j 2).isLt; omega⟩
def pools (j : S16x4096x256.Idx) : EReal :=
  column (tokens m c) (weights m c) (j 0) (j 1) ⟨2700 + (j 2).val, by have : (j 2).val < 256 := (j 2).isLt; omega⟩
def gates (j : S16x4096x128.Idx) : EReal := gate (tokens m c) (weights m c) (j 0) (j 1) (j 2)
def cached (j : S16x512x768.Idx) : EReal :=
  column (tokens m c) (weights m c) (j 0) ⟨3584 + (j 1).val, by have : (j 1).val < 512 := (j 1).isLt; omega⟩
    ⟨1932 + (j 2).val, by have : (j 2).val < 768 := (j 2).isLt; omega⟩
def rows (j : S16x3x1152.Idx) : EReal :=
  extended (tokens m c) (history m c) (weights m c) (j 0) ⟨4096 + (j 1).val, by have : (j 1).val < 3 := (j 1).isLt; omega⟩ (j 2)

theorem final_queries : (dats m 0 c).arrAt 5 cfg0.N = queries m c := by
  refine (dats m 0 c).arrAt_eq_of_covers 5 _ (by decide +kernel) fun t hf y => ?_
  blk_simp
  rw [after0_5]
  obtain ⟨q, r, n, rfl⟩ : ∃ (q : Fin 1) (r : Fin 512) (n : Fin 384), y = ix3 q r n := ⟨y 0, y 1, y 2, eq_ix3 y⟩
  obtain rfl : q = 0 := Subsingleton.elim _ _
  refine (stored_query m c t r n).trans (congrArg (queries m c) (a₁ := ix3 (seq t) (tok t r) n) ?_)
  blk_ext [(output_facts t).1, seq, tok]

theorem final_keys : (dats m 0 c).arrAt 6 cfg0.N = keys m c := by
  refine (dats m 0 c).arrAt_eq_of_covers 6 _ (by decide +kernel) fun t hf y => ?_
  blk_simp
  rw [after0_6]
  obtain ⟨q, r, n, rfl⟩ : ∃ (q : Fin 1) (r : Fin 512) (n : Fin 384), y = ix3 q r n := ⟨y 0, y 1, y 2, eq_ix3 y⟩
  obtain rfl : q = 0 := Subsingleton.elim _ _
  refine (stored_key m c t r n).trans (congrArg (keys m c) (a₁ := ix3 (seq t) (tok t r) n) ?_)
  blk_ext [(output_facts t).2.1, seq, tok]

theorem final_values : (dats m 0 c).arrAt 7 cfg0.N = values m c := by
  refine (dats m 0 c).arrAt_eq_of_covers 7 _ (by decide +kernel) fun t hf y => ?_
  blk_simp
  rw [after0_7]
  obtain ⟨q, r, n, rfl⟩ : ∃ (q : Fin 1) (r : Fin 512) (n : Fin 384), y = ix3 q r n := ⟨y 0, y 1, y 2, eq_ix3 y⟩
  obtain rfl : q = 0 := Subsingleton.elim _ _
  refine (stored_value m c t r n).trans (congrArg (values m c) (a₁ := ix3 (seq t) (tok t r) n) ?_)
  blk_ext [(output_facts t).2.2.1, seq, tok]

theorem final_decays : (dats m 0 c).arrAt 8 cfg0.N = decays m c := by
  refine (dats m 0 c).arrAt_eq_of_covers 8 _ (by decide +kernel) fun t hf y => ?_
  blk_simp
  rw [after0_8]
  obtain ⟨q, r, n, rfl⟩ : ∃ (q : Fin 1) (r : Fin 512) (n : Fin 384), y = ix3 q r n := ⟨y 0, y 1, y 2, eq_ix3 y⟩
  obtain rfl : q = 0 := Subsingleton.elim _ _
  refine (stored_decay m c t r n).trans (congrArg (decays m c) (a₁ := ix3 (seq t) (tok t r) n) ?_)
  blk_ext [(output_facts t).2.2.2.1, seq, tok]

theorem final_bands : (dats m 0 c).arrAt 9 cfg0.N = bands m c := by
  refine (dats m 0 c).arrAt_eq_of_covers 9 _ (by decide +kernel) fun t hf y => ?_
  blk_simp
  rw [after0_9]
  obtain ⟨q, r, n, rfl⟩ : ∃ (q : Fin 1) (r : Fin 512) (n : Fin 1152), y = ix3 q r n := ⟨y 0, y 1, y 2, eq_ix3 y⟩
  obtain rfl : q = 0 := Subsingleton.elim _ _
  refine (stored_band m c t r n).trans (congrArg (bands m c) (a₁ := ix3 (seq t) (tok t r) n) ?_)
  blk_ext [(output_facts t).2.2.2.2.1, seq, tok]

theorem final_pools : (dats m 0 c).arrAt 10 cfg0.N = pools m c := by
  refine (dats m 0 c).arrAt_eq_of_covers 10 _ (by decide +kernel) fun t hf y => ?_
  blk_simp
  rw [after0_10]
  obtain ⟨q, r, n, rfl⟩ : ∃ (q : Fin 1) (r : Fin 512) (n : Fin 256), y = ix3 q r n := ⟨y 0, y 1, y 2, eq_ix3 y⟩
  obtain rfl : q = 0 := Subsingleton.elim _ _
  refine (stored_pool m c t r n).trans (congrArg (pools m c) (a₁ := ix3 (seq t) (tok t r) n) ?_)
  blk_ext [(output_facts t).2.2.2.2.2.1, seq, tok]

theorem final_gates : (dats m 0 c).arrAt 11 cfg0.N = gates m c := by
  refine (dats m 0 c).arrAt_eq_of_covers 11 _ (by decide +kernel) fun t hf y => ?_
  blk_simp
  rw [after0_11]
  obtain ⟨q, r, n, rfl⟩ : ∃ (q : Fin 1) (r : Fin 512) (n : Fin 128), y = ix3 q r n := ⟨y 0, y 1, y 2, eq_ix3 y⟩
  obtain rfl : q = 0 := Subsingleton.elim _ _
  refine (stored_gate m c t r n).trans (congrArg (gates m c) (a₁ := ix3 (seq t) (tok t r) n) ?_)
  blk_ext [(output_facts t).2.2.2.2.2.2.1, seq, tok]

theorem final_cached : (dats m 0 c).arrAt 12 cfg0.N = cached m c := by
  refine (dats m 0 c).arrAt_eq_of_covers 12 _ (by decide +kernel) fun t hf y => ?_
  have h7 : t.val % 8 = 7 := (flush0_12 t).mp hf
  blk_simp
  rw [after0_12]
  obtain ⟨q, r, n, rfl⟩ : ∃ (q : Fin 1) (r : Fin 512) (n : Fin 768), y = ix3 q r n := ⟨y 0, y 1, y 2, eq_ix3 y⟩
  obtain rfl : q = 0 := Subsingleton.elim _ _
  have e : tok t r = ⟨3584 + r.val, by omega⟩ := Fin.ext (by simp only [tok, h7])
  refine (stored_kept m c t r n).trans ?_
  rw [e]
  refine congrArg (cached m c) (a₁ := ix3 (seq t) r n) ?_
  blk_ext [(output_facts t).2.2.2.2.2.2.2.1, seq]

theorem final_rows : (dats m 0 c).arrAt 13 cfg0.N = rows m c := by
  refine (dats m 0 c).arrAt_eq_of_covers 13 _ (by decide +kernel) fun t hf y => ?_
  have h7 : t.val % 8 = 7 := (flush0_13 t).mp hf
  blk_simp
  rw [after0_13]
  obtain ⟨q, r, n, rfl⟩ : ∃ (q : Fin 1) (r : Fin 3) (n : Fin 1152), y = ix3 q r n := ⟨y 0, y 1, y 2, eq_ix3 y⟩
  obtain rfl : q = 0 := Subsingleton.elim _ _
  have e : (⟨512 * (t.val % 8) + 512 + r.val, by omega⟩ : Fin 4099) = ⟨4096 + r.val, by omega⟩ := Fin.ext (by simp only [h7])
  refine (stored_rows m c t r n).trans ?_
  rw [e]
  refine congrArg (rows m c) (a₁ := ix3 (seq t) r n) ?_
  blk_ext [(output_facts t).2.2.2.2.2.2.2.2, seq]

theorem left_0 (r : PUnit × MemSt nD τ sig (Elt Ideal)) (h : Pipeline.FramePost cfgs (dats m) 0 (V m) r) :
    r.2.mem ((c.tc : Thread nD τ).loc main_v20_0) = queries m c :=
  (show r.2.mem ((c.tc : Thread nD τ).loc main_v20_0) = (dats m 0 c).arrAt 5 cfg0.N from (h c).1 5).trans (final_queries m c)

theorem left_1 (r : PUnit × MemSt nD τ sig (Elt Ideal)) (h : Pipeline.FramePost cfgs (dats m) 0 (V m) r) :
    r.2.mem ((c.tc : Thread nD τ).loc main_v20_1) = keys m c :=
  (show r.2.mem ((c.tc : Thread nD τ).loc main_v20_1) = (dats m 0 c).arrAt 6 cfg0.N from (h c).1 6).trans (final_keys m c)

theorem left_2 (r : PUnit × MemSt nD τ sig (Elt Ideal)) (h : Pipeline.FramePost cfgs (dats m) 0 (V m) r) :
    r.2.mem ((c.tc : Thread nD τ).loc main_v20_2) = values m c :=
  (show r.2.mem ((c.tc : Thread nD τ).loc main_v20_2) = (dats m 0 c).arrAt 7 cfg0.N from (h c).1 7).trans (final_values m c)

theorem left_3 (r : PUnit × MemSt nD τ sig (Elt Ideal)) (h : Pipeline.FramePost cfgs (dats m) 0 (V m) r) :
    r.2.mem ((c.tc : Thread nD τ).loc main_v20_3) = decays m c :=
  (show r.2.mem ((c.tc : Thread nD τ).loc main_v20_3) = (dats m 0 c).arrAt 8 cfg0.N from (h c).1 8).trans (final_decays m c)

theorem left_4 (r : PUnit × MemSt nD τ sig (Elt Ideal)) (h : Pipeline.FramePost cfgs (dats m) 0 (V m) r) :
    r.2.mem ((c.tc : Thread nD τ).loc main_v20_4) = bands m c :=
  (show r.2.mem ((c.tc : Thread nD τ).loc main_v20_4) = (dats m 0 c).arrAt 9 cfg0.N from (h c).1 9).trans (final_bands m c)

theorem left_5 (r : PUnit × MemSt nD τ sig (Elt Ideal)) (h : Pipeline.FramePost cfgs (dats m) 0 (V m) r) :
    r.2.mem ((c.tc : Thread nD τ).loc main_v20_5) = pools m c :=
  (show r.2.mem ((c.tc : Thread nD τ).loc main_v20_5) = (dats m 0 c).arrAt 10 cfg0.N from (h c).1 10).trans (final_pools m c)

theorem left_6 (r : PUnit × MemSt nD τ sig (Elt Ideal)) (h : Pipeline.FramePost cfgs (dats m) 0 (V m) r) :
    r.2.mem ((c.tc : Thread nD τ).loc main_v20_6) = gates m c :=
  (show r.2.mem ((c.tc : Thread nD τ).loc main_v20_6) = (dats m 0 c).arrAt 11 cfg0.N from (h c).1 11).trans (final_gates m c)

theorem left_7 (r : PUnit × MemSt nD τ sig (Elt Ideal)) (h : Pipeline.FramePost cfgs (dats m) 0 (V m) r) :
    r.2.mem ((c.tc : Thread nD τ).loc main_v20_7) = cached m c :=
  (show r.2.mem ((c.tc : Thread nD τ).loc main_v20_7) = (dats m 0 c).arrAt 12 cfg0.N from (h c).1 12).trans (final_cached m c)

theorem left_8 (r : PUnit × MemSt nD τ sig (Elt Ideal)) (h : Pipeline.FramePost cfgs (dats m) 0 (V m) r) :
    r.2.mem ((c.tc : Thread nD τ).loc main_v20_8) = rows m c :=
  (show r.2.mem ((c.tc : Thread nD τ).loc main_v20_8) = (dats m 0 c).arrAt 13 cfg0.N from (h c).1 13).trans (final_rows m c)

/-- The run: the nine results, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v20_0) = queries m c
      ∧ r.2.mem ((c.tc : Thread nD τ).loc main_v20_1) = keys m c
      ∧ r.2.mem ((c.tc : Thread nD τ).loc main_v20_2) = values m c
      ∧ r.2.mem ((c.tc : Thread nD τ).loc main_v20_3) = decays m c
      ∧ r.2.mem ((c.tc : Thread nD τ).loc main_v20_4) = bands m c
      ∧ r.2.mem ((c.tc : Thread nD τ).loc main_v20_5) = pools m c
      ∧ r.2.mem ((c.tc : Thread nD τ).loc main_v20_6) = gates m c
      ∧ r.2.mem ((c.tc : Thread nD τ).loc main_v20_7) = cached m c
      ∧ r.2.mem ((c.tc : Thread nD τ).loc main_v20_8) = rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨left_0 m c r h, left_1 m c r h, left_2 m c r h, left_3 m c r h, left_4 m c r h, left_5 m c r h, left_6 m c r h, left_7 m c r h, left_8 m c r h, kept m h c⟩)
    (run_main m ρ)

end Cert.InprojValue

end
-- ==== Proof.InprojReference.lean ====
module

public import proofs.«01_k».proof.Proof.Gen.Reference2Ideal.Read
public import proofs.«01_k».proof.Proof.InprojSpec

/-! The reference's input projection, read at an index. -/

@[expose] public section

noncomputable section

namespace Cert.InprojReference

open Cert.Reference2Ideal Cert.Reference2Ideal.Gen Cert.Reference2Ideal.Read Idealize.ShloMosaic Idealize.ShloMosaic.TcCoe Idealize.SL.Sem Cert.InprojSpec

variable (x0 : (⟨S16x4096x1024, .f32⟩ : BufTy).Contents (Elt Ideal)) (x1 : (⟨S16x3x1152, .f32⟩ : BufTy).Contents (Elt Ideal))
  (x2 : (⟨S1024x2956, .f32⟩ : BufTy).Contents (Elt Ideal)) (x3 : (⟨S4x1152, .f32⟩ : BufTy).Contents (Elt Ideal))

/-- The arguments by coordinates. -/
abbrev tokens (b : Fin 16) (t : Fin 4096) (k : Fin 1024) : EReal := x0 (ix3 b t k)
abbrev history (b : Fin 16) (t : Fin 3) (n : Fin 1152) : EReal := x1 (ix3 b t n)
abbrev weights (k : Fin 1024) (n : Fin 2956) : EReal := x2 (ix2 k n)
abbrev taps (j : Fin 4) (n : Fin 1152) : EReal := x3 (ix2 j n)

theorem column_apply (b : Fin 16) (t : Fin 4096) (n : Fin 2956) :
    val_main_v0 (F := Ideal) x0 x2 (ix3 b t n) = column (tokens x0) (weights x2) b t n := by
  pointwise [val_main_v0, column]

theorem extended_apply (b : Fin 16) (u : Fin 4099) (n : Fin 1152) :
    val_main_v2 (F := Ideal) x0 x1 x2 (ix3 b u n) = extended (tokens x0) (history x1) (weights x2) b u n := by
  pointwise [val_main_v2, val_main_v1]
  unfold extended
  split
  · rfl
  · exact column_apply x0 x2 b _ _

theorem weighted_apply (b : Fin 16) (t : Fin 4096) (n : Fin 1152) :
    val_main_v33 (F := Ideal) x0 x1 x2 x3 (ix3 b t n) = active (tokens x0) (history x1) (weights x2) (taps x3) b t n := by
  unfold active
  rw [← extended_apply, ← extended_apply, ← extended_apply, ← extended_apply]
  pointwise [val_main_v33, val_main_call0_v5, val_main_call0_v4, val_main_call0_v3, val_main_call0_v2, val_main_call0_v1, val_main_call0_v0,
    val_main_call0_cst, val_main_call0_cst_0, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_cst, weighted, swish]
  simp only [Ideal.logistic]

theorem heads_apply (b : Fin 16) (t : Fin 4096) (p : Fin 3) (h : Fin 6) (d : Fin 64) :
    val_main_v34 (F := Ideal) x0 x1 x2 x3 (ix5 b t p h d)
      = active (tokens x0) (history x1) (weights x2) (taps x3) b t ⟨384 * p.val + (64 * h.val + d.val), by omega⟩ := by
  rw [← weighted_apply, val_main_v34_apply]
  congr 1
  idx_ext

/-- A query before its lanes are joined. -/
theorem query_lane (b : Fin 16) (t : Fin 4096) (h : Fin 6) (d : Fin 64) :
    val_main_v36 (F := Ideal) x0 x1 x2 x3 (ix4 b t h d) = val_main_v34 (F := Ideal) x0 x1 x2 x3 (ix5 b t 0 h d) := by
  pointwise [val_main_v36, val_main_v35]

theorem query_head (b : Fin 16) (t : Fin 4096) (h : Fin 6) (d : Fin 64) :
    val_main_v46 (F := Ideal) x0 x1 x2 x3 (ix4 b t h d)
      = val_main_v34 (F := Ideal) x0 x1 x2 x3 (ix5 b t 0 h d)
        * Ideal.rsqrt (∑ e : Fin 64, val_main_v34 (F := Ideal) x0 x1 x2 x3 (ix5 b t 0 h e) * val_main_v34 (F := Ideal) x0 x1 x2 x3 (ix5 b t 0 h e)
          + Ideal.ofBits .f32 0x358637BD#32) * Ideal.ofBits .f32 0x3E000000#32 := by
  have e : ∀ k : Fin 64, idx_main_v38 (idx_main_v39 (idx_main_v43 (ix4 b t h d))) k = ix4 b t h k := fun k => by idx_ext
  rw [val_main_v46_apply, val_main_v45_apply, val_main_cst_2_apply, val_main_v44_apply, val_main_v43_apply, val_main_v42_apply, val_main_v41_apply, val_main_v40_apply, val_main_cst_1_apply, val_main_v39_apply, val_main_v38_apply, val_main_cst_0_apply]
  have s : ∀ k : Fin 64, val_main_v37 (F := Ideal) x0 x1 x2 x3 (idx_main_v38 (idx_main_v39 (idx_main_v43 (ix4 b t h d))) k)
      = val_main_v34 (F := Ideal) x0 x1 x2 x3 (ix5 b t 0 h k) * val_main_v34 (F := Ideal) x0 x1 x2 x3 (ix5 b t 0 h k) := fun k => by
    rw [e, val_main_v37_apply, query_lane]
    generalize val_main_v34 (F := Ideal) x0 x1 x2 x3 = q
    rfl
  rw [query_lane, Finset.sum_congr rfl fun k _ => s k]
  generalize val_main_v34 (F := Ideal) x0 x1 x2 x3 = q
  rw [Ideal.ofBits_def, Ideal.ofBits_zero, zero_add]
  rfl

/-- A key before its lanes are joined. -/
theorem key_lane (b : Fin 16) (t : Fin 4096) (h : Fin 6) (d : Fin 64) :
    val_main_v48 (F := Ideal) x0 x1 x2 x3 (ix4 b t h d) = val_main_v34 (F := Ideal) x0 x1 x2 x3 (ix5 b t 1 h d) := by
  pointwise [val_main_v48, val_main_v47]

theorem key_head (b : Fin 16) (t : Fin 4096) (h : Fin 6) (d : Fin 64) :
    val_main_v56 (F := Ideal) x0 x1 x2 x3 (ix4 b t h d)
      = val_main_v34 (F := Ideal) x0 x1 x2 x3 (ix5 b t 1 h d)
        * Ideal.rsqrt (∑ e : Fin 64, val_main_v34 (F := Ideal) x0 x1 x2 x3 (ix5 b t 1 h e) * val_main_v34 (F := Ideal) x0 x1 x2 x3 (ix5 b t 1 h e)
          + Ideal.ofBits .f32 0x358637BD#32) := by
  have e : ∀ k : Fin 64, idx_main_v50 (idx_main_v51 (idx_main_v55 (ix4 b t h d))) k = ix4 b t h k := fun k => by idx_ext
  rw [val_main_v56_apply, val_main_v55_apply, val_main_v54_apply, val_main_v53_apply, val_main_v52_apply, val_main_cst_4_apply, val_main_v51_apply, val_main_v50_apply, val_main_cst_3_apply]
  have s : ∀ k : Fin 64, val_main_v49 (F := Ideal) x0 x1 x2 x3 (idx_main_v50 (idx_main_v51 (idx_main_v55 (ix4 b t h d))) k)
      = val_main_v34 (F := Ideal) x0 x1 x2 x3 (ix5 b t 1 h k) * val_main_v34 (F := Ideal) x0 x1 x2 x3 (ix5 b t 1 h k) := fun k => by
    rw [e, val_main_v49_apply, key_lane]
    generalize val_main_v34 (F := Ideal) x0 x1 x2 x3 = q
    rfl
  rw [key_lane, Finset.sum_congr rfl fun k _ => s k]
  generalize val_main_v34 (F := Ideal) x0 x1 x2 x3 = q
  rw [Ideal.ofBits_def, Ideal.ofBits_zero, zero_add]
  rfl

/-- The lanes of a head, from a column. -/
theorem lanes (b : Fin 16) (t : Fin 4096) (p : Fin 3) (n : Fin 384) :
    val_main_v34 (F := Ideal) x0 x1 x2 x3 (ix5 b t p ⟨n.val / 64, by omega⟩ ⟨n.val % 64, by omega⟩)
      = active (tokens x0) (history x1) (weights x2) (taps x3) b t ⟨384 * p.val + n.val, by omega⟩ := by
  rw [heads_apply]
  congr 1
  exact Fin.ext (show 384 * p.val + (64 * (n.val / 64) + n.val % 64) = 384 * p.val + n.val by omega)

theorem query_apply (b : Fin 16) (t : Fin 4096) (n : Fin 384) :
    val_main_v65 (F := Ideal) x0 x1 x2 x3 (ix3 b t n) = query (tokens x0) (history x1) (weights x2) (taps x3) b t n := by
  have hv : val_main_v65 (F := Ideal) x0 x1 x2 x3 (ix3 b t n)
      = val_main_v46 (F := Ideal) x0 x1 x2 x3 (ix4 b t ⟨n.val / 64, by omega⟩ ⟨n.val % 64, by omega⟩) := by
    pointwise [val_main_v65]
  rw [hv, query_head, lanes]
  simp only [heads_apply]
  unfold query inverse head
  have e : (⟨384 * (0 : Fin 3).val + n.val, by simp; omega⟩ : Fin 1152) = ⟨n.val, by omega⟩ := Fin.ext (by simp)
  rw [e]
  simp only [Fin.val_zero, Nat.mul_zero]

theorem key_apply (b : Fin 16) (t : Fin 4096) (n : Fin 384) :
    val_main_v66 (F := Ideal) x0 x1 x2 x3 (ix3 b t n) = key (tokens x0) (history x1) (weights x2) (taps x3) b t n := by
  have hv : val_main_v66 (F := Ideal) x0 x1 x2 x3 (ix3 b t n)
      = val_main_v56 (F := Ideal) x0 x1 x2 x3 (ix4 b t ⟨n.val / 64, by omega⟩ ⟨n.val % 64, by omega⟩) := by
    pointwise [val_main_v66]
  rw [hv, key_head, lanes]
  simp only [heads_apply]
  unfold key inverse head
  simp only [Fin.val_one, Nat.mul_one]

theorem value_apply (b : Fin 16) (t : Fin 4096) (n : Fin 384) :
    val_main_v67 (F := Ideal) x0 x1 x2 x3 (ix3 b t n) = value (tokens x0) (history x1) (weights x2) (taps x3) b t n := by
  unfold value
  pointwise [val_main_v67, val_main_v58, val_main_v57]
  exact lanes x0 x1 x2 x3 b t 2 n

theorem decay_apply (b : Fin 16) (t : Fin 4096) (n : Fin 384) :
    val_main_v59 (F := Ideal) x0 x2 (ix3 b t n) = column (tokens x0) (weights x2) b t ⟨1152 + n.val, by omega⟩ := by
  rw [← column_apply]
  pointwise [val_main_v59]

theorem band_apply (b : Fin 16) (t : Fin 4096) (n : Fin 1152) :
    val_main_v68 (F := Ideal) x0 x2 (ix3 b t n) = column (tokens x0) (weights x2) b t ⟨1548 + n.val, by omega⟩ := by
  rw [← column_apply]
  pointwise [val_main_v68, val_main_v62]

theorem pool_apply (b : Fin 16) (t : Fin 4096) (n : Fin 256) :
    val_main_v69 (F := Ideal) x0 x2 (ix3 b t n) = column (tokens x0) (weights x2) b t ⟨2700 + n.val, by omega⟩ := by
  rw [← column_apply]
  pointwise [val_main_v69]

theorem gate_apply (b : Fin 16) (t : Fin 4096) (n : Fin 128) :
    val_main_v61 (F := Ideal) x0 x2 (ix3 b t n) = gate (tokens x0) (weights x2) b t n := by
  unfold gate
  pointwise [val_main_v61, val_main_v60, val_main_call1_v0, val_main_c]
  simp only [column_apply]
  split
  · rfl
  · show (((0#32 : BitVec 32).toInt : ℝ) : EReal) = 0
    simp

theorem kept_apply (b : Fin 16) (r : Fin 512) (n : Fin 768) :
    val_main_v64 (F := Ideal) x0 x2 (ix3 b r n) = column (tokens x0) (weights x2) b ⟨3584 + r.val, by omega⟩ ⟨1932 + n.val, by omega⟩ := by
  rw [← column_apply]
  pointwise [val_main_v64, val_main_v63, val_main_v62]
  congr 1
  idx_ext

theorem rows_apply (b : Fin 16) (r : Fin 3) (n : Fin 1152) :
    val_main_v32 (F := Ideal) x0 x1 x2 (ix3 b r n) = extended (tokens x0) (history x1) (weights x2) b ⟨4096 + r.val, by omega⟩ n := by
  rw [← extended_apply]
  pointwise [val_main_v32]

end Cert.InprojReference

end
-- ==== Proof.InprojAgree.lean ====
module

public import proofs.«01_k».proof.Proof.InprojValue
public import proofs.«01_k».proof.Proof.InprojReference

/-! From the same arguments, the reference's nine values are the kernel's. -/

@[expose] public section

set_option backward.proofsInPublic true

noncomputable section

namespace Cert.InprojAgree

open Cert.Kernel2Ideal Idealize.ShloMosaic Idealize.ShloMosaic.TcCoe Idealize.SL.Sem Cert.InprojValue Cert.InprojReference

variable (m : (ℓ : Loc nD τ sig) → Buf (Elt Ideal) ℓ) (c : Dev nD)

/-- The axes of a three-axis index. -/
theorem axes {n0 n1 n2 : ℕ} (j : (⟨3, ![n0, n1, n2]⟩ : Shape).Idx) : j = ix3 (j 0) (j 1) (j 2) := by
  funext a
  match a with
  | ⟨0, _⟩ => rfl
  | ⟨1, _⟩ => rfl
  | ⟨2, _⟩ => rfl

theorem queries_agree :
    Cert.Reference2Ideal.Read.val_main_v65 (F := Ideal) (m (c.tc.loc main_arg0)) (m (c.tc.loc main_arg1)) (m (c.tc.loc main_arg2)) (m (c.tc.loc main_arg3)) = queries m c := by
  funext j
  refine (congrArg _ (axes j)).trans ((query_apply _ _ _ _ (j 0) (j 1) (j 2)).trans ?_)
  rfl

theorem keys_agree :
    Cert.Reference2Ideal.Read.val_main_v66 (F := Ideal) (m (c.tc.loc main_arg0)) (m (c.tc.loc main_arg1)) (m (c.tc.loc main_arg2)) (m (c.tc.loc main_arg3)) = keys m c := by
  funext j
  refine (congrArg _ (axes j)).trans ((key_apply _ _ _ _ (j 0) (j 1) (j 2)).trans ?_)
  rfl

theorem values_agree :
    Cert.Reference2Ideal.Read.val_main_v67 (F := Ideal) (m (c.tc.loc main_arg0)) (m (c.tc.loc main_arg1)) (m (c.tc.loc main_arg2)) (m (c.tc.loc main_arg3)) = values m c := by
  funext j
  refine (congrArg _ (axes j)).trans ((value_apply _ _ _ _ (j 0) (j 1) (j 2)).trans ?_)
  rfl

theorem decays_agree :
    Cert.Reference2Ideal.Read.val_main_v59 (F := Ideal) (m (c.tc.loc main_arg0)) (m (c.tc.loc main_arg2)) = decays m c := by
  funext j
  refine (congrArg _ (axes j)).trans ((decay_apply _ _ (j 0) (j 1) (j 2)).trans ?_)
  rfl

theorem bands_agree :
    Cert.Reference2Ideal.Read.val_main_v68 (F := Ideal) (m (c.tc.loc main_arg0)) (m (c.tc.loc main_arg2)) = bands m c := by
  funext j
  refine (congrArg _ (axes j)).trans ((band_apply _ _ (j 0) (j 1) (j 2)).trans ?_)
  rfl

theorem pools_agree :
    Cert.Reference2Ideal.Read.val_main_v69 (F := Ideal) (m (c.tc.loc main_arg0)) (m (c.tc.loc main_arg2)) = pools m c := by
  funext j
  refine (congrArg _ (axes j)).trans ((pool_apply _ _ (j 0) (j 1) (j 2)).trans ?_)
  rfl

theorem gates_agree :
    Cert.Reference2Ideal.Read.val_main_v61 (F := Ideal) (m (c.tc.loc main_arg0)) (m (c.tc.loc main_arg2)) = gates m c := by
  funext j
  refine (congrArg _ (axes j)).trans ((gate_apply _ _ (j 0) (j 1) (j 2)).trans ?_)
  rfl

theorem cached_agree :
    Cert.Reference2Ideal.Read.val_main_v64 (F := Ideal) (m (c.tc.loc main_arg0)) (m (c.tc.loc main_arg2)) = cached m c := by
  funext j
  refine (congrArg _ (axes j)).trans ((kept_apply _ _ (j 0) (j 1) (j 2)).trans ?_)
  rfl

theorem rows_agree :
    Cert.Reference2Ideal.Read.val_main_v32 (F := Ideal) (m (c.tc.loc main_arg0)) (m (c.tc.loc main_arg1)) (m (c.tc.loc main_arg2)) = rows m c := by
  funext j
  refine (congrArg _ (axes j)).trans ((rows_apply _ _ _ (j 0) (j 1) (j 2)).trans ?_)
  rfl

end Cert.InprojAgree

end
-- ==== Proof.InprojSame.lean ====
module

public import proofs.«01_k».proof.Proof.Gen.Kernel2
public import proofs.«01_k».proof.Proof.Gen.Kernel2Ideal
public import Idealize.ShloMosaic.Adequacy

/-! The input projection's two programs have one text: the same table of bodies and the same host program. So a run of
the one is a run of the other. -/

@[expose] public section

set_option maxRecDepth 100000
set_option maxHeartbeats 4000000

noncomputable section

namespace Cert.Inproj

open Idealize.ShloMosaic Idealize.SL.Sem

variable {F : FTy → Type} [FloatOps F]

local instance : Cert.Kernel2.Facts := Cert.Kernel2.Gen.facts
local instance : Cert.Kernel2Ideal.Facts := Cert.Kernel2Ideal.Gen.facts

/-- The call's body at one grid point and one choice of staging buffers. -/
theorem same_body (t : Fin Cert.Kernel2.grid0.N) (s : (w : Fin 14) → Fin (Cert.Kernel2.win0 w).nbuf) :
    Cert.Kernel2.defs₀ (F := F) .tc 0 (t, s) = Cert.Kernel2Ideal.defs₀ (F := F) .tc 0 (t, s) := rfl

/-- The table of the calls' bodies. -/
theorem same_bodies : Cert.Kernel2.defs₀ (F := F) = Cert.Kernel2Ideal.defs₀ (F := F) := by
  funext p l a
  match p, l, a with
  | .tc, 0, (t, s) => exact same_body t s
  | .scScalar _, 0, _ => rfl
  | .scVector _ _, 0, _ => rfl

/-- The table with the calls' pipelines. -/
theorem same_defs : Cert.Kernel2.defs (F := F) = Cert.Kernel2Ideal.defs (F := F) :=
  congrArg (Pipeline.defs (Cert.Kernel2Ideal.pcfgs (F := F))) same_bodies

/-- The host program. -/
theorem same_main : Cert.Kernel2.main (F := F) = Cert.Kernel2Ideal.main (F := F) := rfl

end Cert.Inproj

end
-- ==== Proof.lean ====
/- The claims: both texts of the layer run without fault and leave every counter at zero; the kernel's ideal text ends with
   the layer of every token, and so does the reference, for every bias above minus infinity. Likewise both texts of the input
   projection, whose nine results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.KernelValue
public import proofs.«01_k».proof.Proof.ReferenceExperts
public import proofs.«01_k».proof.Proof.InprojAgree
public import proofs.«01_k».proof.Proof.InprojSame
public import Idealize.ShloMosaic.Adequacy
public import Idealize.ShloMosaic.Init

@[expose] public section

noncomputable section

namespace Cert.Proof

open Idealize.ShloMosaic Idealize.SL.Sem

/-- The one relation the precondition states. -/
theorem preFacts : Cert.Pre_bias_above_minus_inf.Facts where
  bcast_S_S16 := by decide

/-- A run of the reference leaves its arguments and every counter as they were. -/
theorem reference_frame :
    Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The precondition, read at one expert. -/
theorem above [Cert.Pre_bias_above_minus_inf.Facts] (x0 : FVec Ideal Cert.Pre_bias_above_minus_inf.S16x4096x1024 .f32) (x1 : FVec Ideal Cert.Pre_bias_above_minus_inf.S1024x16 .f32)
    (B : FVec Ideal Cert.Pre_bias_above_minus_inf.S16 .f32) (x3 x4 : FVec Ideal Cert.Pre_bias_above_minus_inf.S16x1024x256 .f32)
    (x5 : FVec Ideal Cert.Pre_bias_above_minus_inf.S16x256x1024 .f32) (x6 x7 : FVec Ideal Cert.Pre_bias_above_minus_inf.S1024 .f32)
    (h : Cert.Pre_bias_above_minus_inf.fn (F := Ideal) x0 x1 B x3 x4 x5 x6 x7 = fun _ => 1#1) (e : Fin 16) :
    (⊥ : EReal) < B (ix1 e) := by
  have h1 : BitVec.ofBool (decide (Ideal.ofBits .f32 0xFF800000#32 < B (ix1 e))) = 1#1 := congrFun h (ix1 e)
  rw [Cert.Routing.neg_inf] at h1
  by_contra hn
  rw [decide_eq_false hn] at h1
  exact absurd h1 (by decide)

/-- From equal arguments, the reference's result is the kernel's. -/
theorem agree (m : (ℓ : Loc Cert.KernelIdeal.nD Cert.KernelIdeal.τ Cert.KernelIdeal.sig) → Buf (Elt Ideal) ℓ) (c : Dev Cert.KernelIdeal.nD) :
    Cert.ReferenceIdeal.Read.val_main_v297 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      = Cert.KernelResult.result m c := by
  funext j
  have hj : j = ix2 (j 0) (j 1) := by
    funext a
    match a with
    | ⟨0, _⟩ => rfl
    | ⟨1, _⟩ => rfl
  refine (congrArg _ hj).trans ((Cert.ReferenceExperts.result_apply _ _ _ _ _ _ _ _ (j 0) (j 1)).trans ?_)
  rfl

/-- A run of the input projection leaves its arguments and every counter as they were. -/
theorem projection_frame : Cert.quiescent_Kernel2Ideal (hKernel2Ideal := Cert.Kernel2Ideal.Gen.facts) :=
  fun m g _ => Cert.Inproj.run_kept (F := Ideal) m g

/-- A run of one table and program is a run of any that equal them. -/
theorem run_of_same {nD : ℕ} {τ : Topo} {sig : RefSig} {Val : EltTy → Type} {Λ : Labels} {D D' : Defs nD τ sig Val Λ}
    {p p' : Dev nD → Prog (TpuEff nD τ sig Val Λ .tc) PUnit} {s : MemSt nD τ sig Val} {Q : PUnit × MemSt nD τ sig Val → Prop}
    (hD : D = D') (hp : p = p') (h : θ_run D' (onTc p') s Q) : θ_run D (onTc p) s Q := by
  subst hD; subst hp; exact h

set_option maxHeartbeats 4000000 in
set_option maxRecDepth 100000 in
/-- The same over the machine's floats: the two programs are one text, so the run above is this one's too. -/
theorem projection_frame_bits : Cert.quiescent_Kernel2 (hKernel2 := Cert.Kernel2.Gen.facts) :=
  fun m g _ => run_of_same (Cert.Inproj.same_defs (F := Bits)) Cert.Inproj.same_main (Cert.Inproj.run_kept (F := Bits) m g)

/-- A run of the second reference leaves its arguments and every counter as they were. -/
theorem projection_reference_frame : Cert.quiescent_Reference2Ideal (hReference2Ideal := Cert.Reference2Ideal.Gen.facts) :=
  fun m g _ => (θ_run Cert.Reference2Ideal.defs _ _).mono
    (fun r h => ⟨fun c => (h c).2.2.2.2.2.2.2.2.2, sem_eq_zero_of_no_sems (by decide) r.2⟩) (Cert.Reference2Ideal.Value.run (F := Ideal) m g)

/-- The layer's feed-forward call against its reference. -/
theorem layer_algebraic : Cert.algebraic_KernelIdeal_ReferenceIdeal_pre_bias_above_minus_inf (hKernelIdeal := Cert.KernelIdeal.Gen.facts)
    (hReferenceIdeal := Cert.ReferenceIdeal.Gen.facts) (hPre_bias_above_minus_inf := preFacts) := by
  intro m g m' g' hpre heq
  refine ⟨fun c => Cert.KernelResult.result m c, Cert.KernelResult.run m g fun c => ⟨_, rfl, ?_⟩, ?_⟩
  · exact @above preFacts _ _ _ _ _ _ _ _ (hpre c)
  · refine (θ_run Cert.ReferenceIdeal.defs _ _).mono (fun r h c => ⟨?_, (h c).2⟩) (Cert.ReferenceIdeal.Value.run (F := Ideal) m' g')
    obtain ⟨h0, h1, h2, h3, h4, h5, h6, h7⟩ := heq c
    refine ((h c).1.trans (Cert.ReferenceIdeal.Read.val_main_v297_eq _)).trans (Eq.trans ?_ (agree m c))
    rw [← h0, ← h1, ← h2, ← h3, ← h4, ← h5, ← h6, ← h7]

open Cert.InprojValue Cert.InprojAgree in
/-- The input projection against its reference. -/
theorem projection_algebraic : Cert.algebraic_Kernel2Ideal_Reference2Ideal (hKernel2Ideal := Cert.Kernel2Ideal.Gen.facts)
    (hReference2Ideal := Cert.Reference2Ideal.Gen.facts) := by
  intro m g m' g' _ heq
  refine ⟨queries m, keys m, values m, decays m, bands m, pools m, gates m, cached m, rows m, Cert.InprojValue.run m g, ?_⟩
  refine (θ_run Cert.Reference2Ideal.defs _ _).mono (fun r h c => ?_) (Cert.Reference2Ideal.Value.run (F := Ideal) m' g')
  obtain ⟨e0, e1, e2, e3, e4, e5, e6, e7, e8, kept⟩ := h c
  obtain ⟨h0, h1, h2, h3⟩ := heq c
  refine ⟨(e0.trans (Cert.Reference2Ideal.Read.val_main_v65_eq m' c)).trans (Eq.trans ?_ (queries_agree m c)),
    (e1.trans (Cert.Reference2Ideal.Read.val_main_v66_eq m' c)).trans (Eq.trans ?_ (keys_agree m c)),
    (e2.trans (Cert.Reference2Ideal.Read.val_main_v67_eq m' c)).trans (Eq.trans ?_ (values_agree m c)),
    (e3.trans (Cert.Reference2Ideal.Read.val_main_v59_eq _ _)).trans (Eq.trans ?_ (decays_agree m c)),
    (e4.trans (Cert.Reference2Ideal.Read.val_main_v68_eq _ _)).trans (Eq.trans ?_ (bands_agree m c)),
    (e5.trans (Cert.Reference2Ideal.Read.val_main_v69_eq _ _)).trans (Eq.trans ?_ (pools_agree m c)),
    (e6.trans (Cert.Reference2Ideal.Read.val_main_v61_eq _ _)).trans (Eq.trans ?_ (gates_agree m c)),
    (e7.trans (Cert.Reference2Ideal.Read.val_main_v64_eq _ _)).trans (Eq.trans ?_ (cached_agree m c)),
    (e8.trans (Cert.Reference2Ideal.Read.val_main_v32_eq _ _ _)).trans (Eq.trans ?_ (rows_agree m c)), kept⟩
  · rw [← h0, ← h1, ← h2, ← h3]
  · rw [← h0, ← h1, ← h2, ← h3]
  · rw [← h0, ← h1, ← h2, ← h3]
  · rw [← h0, ← h2]
  · rw [← h0, ← h2]
  · rw [← h0, ← h2]
  · rw [← h0, ← h2]
  · rw [← h0, ← h2]
  · rw [← h0, ← h1, ← h2]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, preFacts, fun m g _ => Cert.Kernel.Gen.frame m g, fun m g _ => Cert.KernelIdeal.Gen.frame m g,
    fun m g _ => Cert.KernelIdeal.Gen.frame m g, reference_frame, fun m g _ => reference_frame m g trivial, projection_frame_bits, projection_frame,
    projection_reference_frame, trivial, layer_algebraic, trivial, projection_algebraic⟩

end Cert.Proof

end
